-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_finite [hPre_gain_finite : Cert.Pre_gain_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gain_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_finite [hPre_gain_finite : Cert.Pre_gain_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gain_finite [hKernelIdeal : Cert.KernelIdeal.Facts] [hPre_gain_finite : Cert.Pre_gain_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gain_finite [hReferenceIdeal : Cert.ReferenceIdeal.Facts] [hPre_gain_finite : Cert.Pre_gain_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_gain_finite [hKernelIdeal : Cert.KernelIdeal.Facts] [hReferenceIdeal : Cert.ReferenceIdeal.Facts] [hPre_gain_finite : Cert.Pre_gain_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gain_finite : Cert.Pre_gain_finite.Facts),
    quiescent_Kernel (hKernel := hKernel)
    ∧ quiescent_KernelIdeal (hKernelIdeal := hKernelIdeal)
    ∧ quiescent_KernelIdeal_pre_gain_finite (hKernelIdeal := hKernelIdeal) (hPre_gain_finite := hPre_gain_finite)
    ∧ quiescent_ReferenceIdeal (hReferenceIdeal := hReferenceIdeal)
    ∧ quiescent_ReferenceIdeal_pre_gain_finite (hReferenceIdeal := hReferenceIdeal) (hPre_gain_finite := hPre_gain_finite)
    ∧ preserves_Kernel_KernelIdeal
    ∧ algebraic_KernelIdeal_ReferenceIdeal_pre_gain_finite (hKernelIdeal := hKernelIdeal) (hReferenceIdeal := hReferenceIdeal) (hPre_gain_finite := hPre_gain_finite)
-- ==== Pre_gain_finite.lean ====
abbrev S3x384x4096 : Shape := ⟨3, ![3, 384, 4096]⟩
abbrev S4096 : Shape := ⟨1, ![4096]⟩
abbrev S256x2 : Shape := ⟨2, ![256, 2]⟩
abbrev S14336x2048 : Shape := ⟨2, ![14336, 2048]⟩
abbrev S14336x4 : Shape := ⟨2, ![14336, 4]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S3x384x4096 .bf16) (main_arg1 : FVec F S4096 .f32) (main_arg2 : IVec S4096 8) (main_arg3 : IVec S256x2 16) (main_arg4 : IVec S14336x2048 8) (main_arg5 : FVec F S14336x4 .f32) : IVec S4096 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  main_v2
-- ==== Kernel.lean ====
abbrev S3x384x4096 : Shape := ⟨3, ![3, 384, 4096]⟩
abbrev S4096 : Shape := ⟨1, ![4096]⟩
abbrev S256x2 : Shape := ⟨2, ![256, 2]⟩
abbrev S14336x2048 : Shape := ⟨2, ![14336, 2048]⟩
abbrev S14336x4 : Shape := ⟨2, ![14336, 4]⟩
abbrev S256x256 : Shape := ⟨2, ![256, 256]⟩
abbrev S256 : Shape := ⟨1, ![256]⟩
abbrev S2x128 : Shape := ⟨2, ![2, 128]⟩
abbrev S4x14336 : Shape := ⟨2, ![4, 14336]⟩
abbrev S1152x4096 : Shape := ⟨2, ![1152, 4096]⟩
abbrev S1x4096 : Shape := ⟨2, ![1, 4096]⟩
abbrev S1152x14336 : Shape := ⟨2, ![1152, 14336]⟩
abbrev S512x2048 : Shape := ⟨2, ![512, 2048]⟩
abbrev S4x512 : Shape := ⟨2, ![4, 512]⟩
abbrev S1152x1024 : Shape := ⟨2, ![1152, 1024]⟩
abbrev S1152x512 : Shape := ⟨2, ![1152, 512]⟩
abbrev S16x1152x256 : Shape := ⟨3, ![16, 1152, 256]⟩
abbrev S512x4096 : Shape := ⟨2, ![512, 4096]⟩
abbrev S128x4096 : Shape := ⟨2, ![128, 4096]⟩
abbrev S128 : Shape := ⟨1, ![128]⟩
abbrev S128x1 : Shape := ⟨2, ![128, 1]⟩
abbrev S128x256 : Shape := ⟨2, ![128, 256]⟩
abbrev S1x256 : Shape := ⟨2, ![1, 256]⟩
abbrev S1x128x256 : Shape := ⟨3, ![1, 128, 256]⟩
abbrev S1x128 : Shape := ⟨2, ![1, 128]⟩
abbrev S32x128 : Shape := ⟨2, ![32, 128]⟩
abbrev S4x32 : Shape := ⟨2, ![4, 32]⟩
abbrev S32x4 : Shape := ⟨2, ![32, 4]⟩
abbrev S32x1 : Shape := ⟨2, ![32, 1]⟩
abbrev S32x128x1 : Shape := ⟨3, ![32, 128, 1]⟩
abbrev S128x128 : Shape := ⟨2, ![128, 128]⟩
abbrev S1x128x128 : Shape := ⟨3, ![1, 128, 128]⟩
abbrev S128x128x1 : Shape := ⟨3, ![128, 128, 1]⟩
abbrev S1x384x256 : Shape := ⟨3, ![1, 384, 256]⟩
abbrev S384x256 : Shape := ⟨2, ![384, 256]⟩
abbrev S512x256 : Shape := ⟨2, ![512, 256]⟩
abbrev S384x512 : Shape := ⟨2, ![384, 512]⟩
abbrev S3x384x14336 : Shape := ⟨3, ![3, 384, 14336]⟩

abbrev nBuf : Space → Nat
  | .hbm => 17
  | .vmem => 22
  | .smem => 0
  | _ => 0

abbrev bufTy : (tb : Table) → Fin (tcTables nBuf tb) → BufTy
  | .hbm, ⟨0, _⟩ => ⟨S3x384x4096, .bf16⟩
  | .hbm, ⟨1, _⟩ => ⟨S4096, .f32⟩
  | .hbm, ⟨2, _⟩ => ⟨S4096, .i8⟩
  | .hbm, ⟨3, _⟩ => ⟨S256x2, .i16⟩
  | .hbm, ⟨4, _⟩ => ⟨S14336x2048, .i8⟩
  | .hbm, ⟨5, _⟩ => ⟨S14336x4, .f32⟩
  | .hbm, ⟨6, _⟩ => ⟨S256x256, .bf16⟩
  | .hbm, ⟨7, _⟩ => ⟨S256, .i32⟩
  | .hbm, ⟨8, _⟩ => ⟨S2x128, .i32⟩
  | .hbm, ⟨9, _⟩ => ⟨S4x14336, .f32⟩
  | .hbm, ⟨10, _⟩ => ⟨S1152x4096, .bf16⟩
  | .hbm, ⟨11, _⟩ => ⟨S1x4096, .f32⟩
  | .hbm, ⟨12, _⟩ => ⟨S1x4096, .i8⟩
  | .hbm, ⟨13, _⟩ => ⟨S1152x14336, .bf16⟩
  | .hbm, ⟨14, _⟩ => ⟨S1152x4096, .bf16⟩
  | .hbm, ⟨15, _⟩ => ⟨S3x384x14336, .bf16⟩
  | .hbm, ⟨16, _⟩ => ⟨S3x384x4096, .bf16⟩
  | .local _ .vmem, ⟨0, _⟩ => ⟨S1152x4096, .bf16⟩
  | .local _ .vmem, ⟨1, _⟩ => ⟨S1x4096, .f32⟩
  | .local _ .vmem, ⟨2, _⟩ => ⟨S1x4096, .i8⟩
  | .local _ .vmem, ⟨3, _⟩ => ⟨S256x256, .bf16⟩
  | .local _ .vmem, ⟨4, _⟩ => ⟨S2x128, .i32⟩
  | .local _ .vmem, ⟨5, _⟩ => ⟨S512x2048, .i8⟩
  | .local _ .vmem, ⟨6, _⟩ => ⟨S512x2048, .i8⟩
  | .local _ .vmem, ⟨7, _⟩ => ⟨S512x2048, .i8⟩
  | .local _ .vmem, ⟨8, _⟩ => ⟨S512x2048, .i8⟩
  | .local _ .vmem, ⟨9, _⟩ => ⟨S512x2048, .i8⟩
  | .local _ .vmem, ⟨10, _⟩ => ⟨S4x512, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | .local _ .vmem, ⟨14, _⟩ => ⟨S4x512, .f32⟩
  | .local _ .vmem, ⟨15, _⟩ => ⟨S1152x1024, .bf16⟩
  | .local _ .vmem, ⟨16, _⟩ => ⟨S1152x1024, .bf16⟩
  | .local _ .vmem, ⟨17, _⟩ => ⟨S1152x512, .bf16⟩
  | .local _ .vmem, ⟨18, _⟩ => ⟨S1152x512, .bf16⟩
  | .local _ .vmem, ⟨19, _⟩ => ⟨S16x1152x256, .bf16⟩
  | .local _ .vmem, ⟨20, _⟩ => ⟨S512x4096, .bf16⟩
  | .local _ .vmem, ⟨21, _⟩ => ⟨S512x4096, .bf16⟩
  | _, _ => ⟨S3x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5423 : BitVec 32 := 0#32
  let c9_i32 : BitVec 32 := 9#32
  let v17058 : BitVec 32 := Scalar.addi c0_i32_5423 c9_i32
  let c1_i32_5424 : BitVec 32 := 1#32
  ⟨c0_i32_5423, v17058, c1_i32_5424⟩
def k0_mult1 (k0_t1 : Fin k0_t1_loop.trips) : BitVec 32 :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  v25052
def k0_off1 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25054 : Index := Scalar.indexCast v25053
  let c0_7768 : Index := 0#32
  ![v25054.toNat, 0]
def k0_off2 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25066 : Index := Scalar.indexCast v25053
  let c0_7772 : Index := 0#32
  ![v25066.toNat, 0]
def k0_off3 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25084 : Index := Scalar.indexCast v25053
  let c256_7780 : Index := 256#32
  ![v25084.toNat, 256]
def k0_off4 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25102 : Index := Scalar.indexCast v25053
  let c512_7788 : Index := 512#32
  ![v25102.toNat, 512]
def k0_off5 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25120 : Index := Scalar.indexCast v25053
  let c768_7796 : Index := 768#32
  ![v25120.toNat, 768]
def k0_off6 (k0_t1 : Fin k0_t1_loop.trips) : Fin 3 → Nat :=
  let c0_7805 : Index := 0#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25149 : Index := Scalar.indexCast v25053
  let c0_7806 : Index := 0#32
  ![0, v25149.toNat, 0]
def k0_off7 (k0_t1 : Fin k0_t1_loop.trips) : Fin 3 → Nat :=
  let c1_7808 : Index := 1#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25156 : Index := Scalar.indexCast v25053
  let c0_7809 : Index := 0#32
  ![1, v25156.toNat, 0]
def k0_off8 (k0_t1 : Fin k0_t1_loop.trips) : Fin 3 → Nat :=
  let c2_7811 : Index := 2#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25163 : Index := Scalar.indexCast v25053
  let c0_7812 : Index := 0#32
  ![2, v25163.toNat, 0]
def k0_off9 (k0_t1 : Fin k0_t1_loop.trips) : Fin 3 → Nat :=
  let c3_7814 : Index := 3#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25170 : Index := Scalar.indexCast v25053
  let c0_7815 : Index := 0#32
  ![3, v25170.toNat, 0]
def k0_off10 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25174 : Index := Scalar.indexCast v25053
  let c1024_7816 : Index := 1024#32
  ![v25174.toNat, 1024]
def k0_off11 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25192 : Index := Scalar.indexCast v25053
  let c1280_7824 : Index := 1280#32
  ![v25192.toNat, 1280]
def k0_off12 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25210 : Index := Scalar.indexCast v25053
  let c1536_7832 : Index := 1536#32
  ![v25210.toNat, 1536]
def k0_off13 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25228 : Index := Scalar.indexCast v25053
  let c1792_7840 : Index := 1792#32
  ![v25228.toNat, 1792]
def k0_off14 (k0_t1 : Fin k0_t1_loop.trips) : Fin 3 → Nat :=
  let c4_7849 : Index := 4#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25257 : Index := Scalar.indexCast v25053
  let c0_7850 : Index := 0#32
  ![4, v25257.toNat, 0]
def k0_off15 (k0_t1 : Fin k0_t1_loop.trips) : Fin 3 → Nat :=
  let c5_7852 : Index := 5#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25264 : Index := Scalar.indexCast v25053
  let c0_7853 : Index := 0#32
  ![5, v25264.toNat, 0]
def k0_off16 (k0_t1 : Fin k0_t1_loop.trips) : Fin 3 → Nat :=
  let c6_7855 : Index := 6#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25271 : Index := Scalar.indexCast v25053
  let c0_7856 : Index := 0#32
  ![6, v25271.toNat, 0]
def k0_off17 (k0_t1 : Fin k0_t1_loop.trips) : Fin 3 → Nat :=
  let c7_7858 : Index := 7#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25278 : Index := Scalar.indexCast v25053
  let c0_7859 : Index := 0#32
  ![7, v25278.toNat, 0]
def k0_off18 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25282 : Index := Scalar.indexCast v25053
  let c2048_7860 : Index := 2048#32
  ![v25282.toNat, 2048]
def k0_off19 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25300 : Index := Scalar.indexCast v25053
  let c2304_7868 : Index := 2304#32
  ![v25300.toNat, 2304]
def k0_off20 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25318 : Index := Scalar.indexCast v25053
  let c2560_7876 : Index := 2560#32
  ![v25318.toNat, 2560]
def k0_off21 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25336 : Index := Scalar.indexCast v25053
  let c2816_7884 : Index := 2816#32
  ![v25336.toNat, 2816]
def k0_off22 (k0_t1 : Fin k0_t1_loop.trips) : Fin 3 → Nat :=
  let c8_7893 : Index := 8#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25365 : Index := Scalar.indexCast v25053
  let c0_7894 : Index := 0#32
  ![8, v25365.toNat, 0]
def k0_off23 (k0_t1 : Fin k0_t1_loop.trips) : Fin 3 → Nat :=
  let c9_7896 : Index := 9#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25372 : Index := Scalar.indexCast v25053
  let c0_7897 : Index := 0#32
  ![9, v25372.toNat, 0]
def k0_off24 (k0_t1 : Fin k0_t1_loop.trips) : Fin 3 → Nat :=
  let c10_7899 : Index := 10#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25379 : Index := Scalar.indexCast v25053
  let c0_7900 : Index := 0#32
  ![10, v25379.toNat, 0]
def k0_off25 (k0_t1 : Fin k0_t1_loop.trips) : Fin 3 → Nat :=
  let c11_7902 : Index := 11#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25386 : Index := Scalar.indexCast v25053
  let c0_7903 : Index := 0#32
  ![11, v25386.toNat, 0]
def k0_off26 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25390 : Index := Scalar.indexCast v25053
  let c3072_7904 : Index := 3072#32
  ![v25390.toNat, 3072]
def k0_off27 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25408 : Index := Scalar.indexCast v25053
  let c3328_7912 : Index := 3328#32
  ![v25408.toNat, 3328]
def k0_off28 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25426 : Index := Scalar.indexCast v25053
  let c3584_7920 : Index := 3584#32
  ![v25426.toNat, 3584]
def k0_off29 (k0_t1 : Fin k0_t1_loop.trips) : Fin 2 → Nat :=
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25444 : Index := Scalar.indexCast v25053
  let c3840_7928 : Index := 3840#32
  ![v25444.toNat, 3840]
def k0_off30 (k0_t1 : Fin k0_t1_loop.trips) : Fin 3 → Nat :=
  let c12_7937 : Index := 12#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25473 : Index := Scalar.indexCast v25053
  let c0_7938 : Index := 0#32
  ![12, v25473.toNat, 0]
def k0_off31 (k0_t1 : Fin k0_t1_loop.trips) : Fin 3 → Nat :=
  let c13_7940 : Index := 13#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25480 : Index := Scalar.indexCast v25053
  let c0_7941 : Index := 0#32
  ![13, v25480.toNat, 0]
def k0_off32 (k0_t1 : Fin k0_t1_loop.trips) : Fin 3 → Nat :=
  let c14_7943 : Index := 14#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25487 : Index := Scalar.indexCast v25053
  let c0_7944 : Index := 0#32
  ![14, v25487.toNat, 0]
def k0_off33 (k0_t1 : Fin k0_t1_loop.trips) : Fin 3 → Nat :=
  let c15_7946 : Index := 15#32
  let c0_i32_7767 : BitVec 32 := 0#32
  let c0_i32_5423 : BitVec 32 := 0#32
  let c1_i32_5424 : BitVec 32 := 1#32
  let arg17 : BitVec 32 := Scf.iv c0_i32_5423 c1_i32_5424 k0_t1
  let c128_i32_7766 : BitVec 32 := 128#32
  let v25051 : BitVec 32 := Scalar.muli arg17 c128_i32_7766
  let v25052 : BitVec 32 := Scalar.addi c0_i32_7767 v25051
  let v25053 : BitVec 32 := v25052
  let v25494 : Index := Scalar.indexCast v25053
  let c0_7947 : Index := 0#32
  ![15, v25494.toNat, 0]
def k0_off34 (i : grid0.Coords) (c0_i32_3 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v12 : BitVec 32 := Scalar.addi v4 c0_i32_3
  let v13 : Index := Scalar.indexCast v12
  let c0 : Index := 0#32
  let c0_4 : Index := 0#32
  ![v13.toNat, 0, 0]
def k0_off35 (i : grid0.Coords) (c0_i32_5 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v17 : BitVec 32 := Scalar.addi v4 c0_i32_5
  let v18 : Index := Scalar.indexCast v17
  let c0_6 : Index := 0#32
  let c128 : Index := 128#32
  ![v18.toNat, 0, 128]
def k0_off36 (i : grid0.Coords) (c0_i32_12 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v44 : BitVec 32 := Scalar.addi v4 c0_i32_12
  let v45 : Index := Scalar.indexCast v44
  let c128_13 : Index := 128#32
  let c0_14 : Index := 0#32
  ![v45.toNat, 128, 0]
def k0_off37 (i : grid0.Coords) (c0_i32_15 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v49 : BitVec 32 := Scalar.addi v4 c0_i32_15
  let v50 : Index := Scalar.indexCast v49
  let c128_16 : Index := 128#32
  let c128_17 : Index := 128#32
  ![v50.toNat, 128, 128]
def k0_off38 (i : grid0.Coords) (c0_i32_24 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v76 : BitVec 32 := Scalar.addi v4 c0_i32_24
  let v77 : Index := Scalar.indexCast v76
  let c256 : Index := 256#32
  let c0_25 : Index := 0#32
  ![v77.toNat, 256, 0]
def k0_off39 (i : grid0.Coords) (c0_i32_26 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v81 : BitVec 32 := Scalar.addi v4 c0_i32_26
  let v82 : Index := Scalar.indexCast v81
  let c256_27 : Index := 256#32
  let c128_28 : Index := 128#32
  ![v82.toNat, 256, 128]
def k0_off40 (i : grid0.Coords) (c0_i32_35 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v108 : BitVec 32 := Scalar.addi v4 c0_i32_35
  let v109 : Index := Scalar.indexCast v108
  let c384 : Index := 384#32
  let c0_36 : Index := 0#32
  ![v109.toNat, 384, 0]
def k0_off41 (i : grid0.Coords) (c0_i32_37 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v113 : BitVec 32 := Scalar.addi v4 c0_i32_37
  let v114 : Index := Scalar.indexCast v113
  let c384_38 : Index := 384#32
  let c128_39 : Index := 128#32
  ![v114.toNat, 384, 128]
def k0_off42 (i : grid0.Coords) (c0_i32_46 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v140 : BitVec 32 := Scalar.addi v4 c0_i32_46
  let v141 : Index := Scalar.indexCast v140
  let c512 : Index := 512#32
  let c0_47 : Index := 0#32
  ![v141.toNat, 512, 0]
def k0_off43 (i : grid0.Coords) (c0_i32_48 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v145 : BitVec 32 := Scalar.addi v4 c0_i32_48
  let v146 : Index := Scalar.indexCast v145
  let c512_49 : Index := 512#32
  let c128_50 : Index := 128#32
  ![v146.toNat, 512, 128]
def k0_off44 (i : grid0.Coords) (c0_i32_57 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v172 : BitVec 32 := Scalar.addi v4 c0_i32_57
  let v173 : Index := Scalar.indexCast v172
  let c640 : Index := 640#32
  let c0_58 : Index := 0#32
  ![v173.toNat, 640, 0]
def k0_off45 (i : grid0.Coords) (c0_i32_59 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v177 : BitVec 32 := Scalar.addi v4 c0_i32_59
  let v178 : Index := Scalar.indexCast v177
  let c640_60 : Index := 640#32
  let c128_61 : Index := 128#32
  ![v178.toNat, 640, 128]
def k0_off46 (i : grid0.Coords) (c0_i32_68 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v204 : BitVec 32 := Scalar.addi v4 c0_i32_68
  let v205 : Index := Scalar.indexCast v204
  let c768 : Index := 768#32
  let c0_69 : Index := 0#32
  ![v205.toNat, 768, 0]
def k0_off47 (i : grid0.Coords) (c0_i32_70 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v209 : BitVec 32 := Scalar.addi v4 c0_i32_70
  let v210 : Index := Scalar.indexCast v209
  let c768_71 : Index := 768#32
  let c128_72 : Index := 128#32
  ![v210.toNat, 768, 128]
def k0_off48 (i : grid0.Coords) (c0_i32_79 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v236 : BitVec 32 := Scalar.addi v4 c0_i32_79
  let v237 : Index := Scalar.indexCast v236
  let c896 : Index := 896#32
  let c0_80 : Index := 0#32
  ![v237.toNat, 896, 0]
def k0_off49 (i : grid0.Coords) (c0_i32_81 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v241 : BitVec 32 := Scalar.addi v4 c0_i32_81
  let v242 : Index := Scalar.indexCast v241
  let c896_82 : Index := 896#32
  let c128_83 : Index := 128#32
  ![v242.toNat, 896, 128]
def k0_off50 (i : grid0.Coords) (c0_i32_90 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v268 : BitVec 32 := Scalar.addi v4 c0_i32_90
  let v269 : Index := Scalar.indexCast v268
  let c1024 : Index := 1024#32
  let c0_91 : Index := 0#32
  ![v269.toNat, 1024, 0]
def k0_off51 (i : grid0.Coords) (c0_i32_92 : BitVec 32) : Fin 3 → Nat :=
  let arg0 : BitVec 32 := BitVec.ofNat 32 (i 0).val
  let c7_i32 : BitVec 32 := 7#32
  let v3 : BitVec 32 := Scalar.minsi arg0 c7_i32
  let c2_i32 : BitVec 32 := 2#32
  let v4 : BitVec 32 := Scalar.muli v3 c2_i32
  let v273 : BitVec 32 := Scalar.addi v4 c0_i32_92
  let v274 : Index := Scalar.indexCast v273
  let c1024_93 : Index := 1024#32
  let c128_94 : Index := 128#32
  ![v274.toNat, 1024, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c27_i32 : BitVec 32 := 27#32
  let v2 : BitVec 32 := Scalar.minsi v1 c27_i32
  let c0_i32 : BitVec 32 := 0#32
  let c0_i32_1 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c27_i32 : BitVec 32 := 27#32
  let v2 : BitVec 32 := Scalar.minsi v1 c27_i32
  let c0_i32 : BitVec 32 := 0#32
  let c0_i32_1 : BitVec 32 := 0#32
  ![c0_i32.toNat, v2.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

abbrev stage0_0 : Fin 1 → Memref sig .tc .vmem S1152x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1152x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1152x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S3x384x4096 : Shape := ⟨3, ![3, 384, 4096]⟩
abbrev S4096 : Shape := ⟨1, ![4096]⟩
abbrev S256x2 : Shape := ⟨2, ![256, 2]⟩
abbrev S14336x2048 : Shape := ⟨2, ![14336, 2048]⟩
abbrev S14336x4 : Shape := ⟨2, ![14336, 4]⟩
abbrev S_ : Shape := ⟨0, ![]⟩
abbrev S3x384 : Shape := ⟨2, ![3, 384]⟩
abbrev S3x384x1 : Shape := ⟨3, ![3, 384, 1]⟩
abbrev S1x1x4096 : Shape := ⟨3, ![1, 1, 4096]⟩
abbrev S4x1024 : Shape := ⟨2, ![4, 1024]⟩
abbrev S3x384x4x1024 : Shape := ⟨4, ![3, 384, 4, 1024]⟩
abbrev S1x1x4x1024 : Shape := ⟨4, ![1, 1, 4, 1024]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S14336x2048x1 : Shape := ⟨3, ![14336, 2048, 1]⟩
abbrev S14336x2048x2 : Shape := ⟨3, ![14336, 2048, 2]⟩
abbrev S14336x4x512x2 : Shape := ⟨4, ![14336, 4, 512, 2]⟩
abbrev S14336x4x1x1 : Shape := ⟨4, ![14336, 4, 1, 1]⟩
abbrev S3x384x4x512x2 : Shape := ⟨5, ![3, 384, 4, 512, 2]⟩
abbrev S3x384x14336 : Shape := ⟨3, ![3, 384, 14336]⟩

abbrev nBuf : Space → Nat
  | .hbm => 76
  | .vmem => 0
  | .smem => 0
  | _ => 0

abbrev bufTy : (tb : Table) → Fin (tcTables nBuf tb) → BufTy
  | .hbm, ⟨0, _⟩ => ⟨S3x384x4096, .bf16⟩
  | .hbm, ⟨1, _⟩ => ⟨S4096, .f32⟩
  | .hbm, ⟨2, _⟩ => ⟨S4096, .i8⟩
  | .hbm, ⟨3, _⟩ => ⟨S256x2, .i16⟩
  | .hbm, ⟨4, _⟩ => ⟨S14336x2048, .i8⟩
  | .hbm, ⟨5, _⟩ => ⟨S14336x4, .f32⟩
  | .hbm, ⟨6, _⟩ => ⟨S256x2, .bf16⟩
  | .hbm, ⟨7, _⟩ => ⟨S3x384x4096, .f32⟩
  | .hbm, ⟨8, _⟩ => ⟨S3x384x4096, .f32⟩
  | .hbm, ⟨9, _⟩ => ⟨S_, .f32⟩
  | .hbm, ⟨10, _⟩ => ⟨S3x384, .f32⟩
  | .hbm, ⟨11, _⟩ => ⟨S3x384x1, .f32⟩
  | .hbm, ⟨12, _⟩ => ⟨S_, .f32⟩
  | .hbm, ⟨13, _⟩ => ⟨S3x384x1, .f32⟩
  | .hbm, ⟨14, _⟩ => ⟨S3x384x1, .f32⟩
  | .hbm, ⟨15, _⟩ => ⟨S_, .f32⟩
  | .hbm, ⟨16, _⟩ => ⟨S3x384x1, .f32⟩
  | .hbm, ⟨17, _⟩ => ⟨S3x384x1, .f32⟩
  | .hbm, ⟨18, _⟩ => ⟨S3x384x1, .f32⟩
  | .hbm, ⟨19, _⟩ => ⟨S3x384x4096, .f32⟩
  | .hbm, ⟨20, _⟩ => ⟨S3x384x4096, .f32⟩
  | .hbm, ⟨21, _⟩ => ⟨S1x1x4096, .f32⟩
  | .hbm, ⟨22, _⟩ => ⟨S3x384x4096, .f32⟩
  | .hbm, ⟨23, _⟩ => ⟨S3x384x4096, .f32⟩
  | .hbm, ⟨24, _⟩ => ⟨S3x384x4096, .bf16⟩
  | .hbm, ⟨25, _⟩ => ⟨S4096, .i32⟩
  | .hbm, ⟨26, _⟩ => ⟨S4096, .f32⟩
  | .hbm, ⟨27, _⟩ => ⟨S4096, .bf16⟩
  | .hbm, ⟨28, _⟩ => ⟨S4x1024, .bf16⟩
  | .hbm, ⟨29, _⟩ => ⟨S3x384x4x1024, .bf16⟩
  | .hbm, ⟨30, _⟩ => ⟨S1x1x4x1024, .bf16⟩
  | .hbm, ⟨31, _⟩ => ⟨S3x384x4x1024, .bf16⟩
  | .hbm, ⟨32, _⟩ => ⟨S3x384x4x1024, .bf16⟩
  | .hbm, ⟨33, _⟩ => ⟨S1024, .i32⟩
  | .hbm, ⟨34, _⟩ => ⟨S1024x1, .i32⟩
  | .hbm, ⟨35, _⟩ => ⟨S1024x1024, .i32⟩
  | .hbm, ⟨36, _⟩ => ⟨S1024, .i32⟩
  | .hbm, ⟨37, _⟩ => ⟨S1x1024, .i32⟩
  | .hbm, ⟨38, _⟩ => ⟨S1024x1024, .i32⟩
  | .hbm, ⟨39, _⟩ => ⟨S1024x1024, .i32⟩
  | .hbm, ⟨40, _⟩ => ⟨S1024x1024, .i32⟩
  | .hbm, ⟨41, _⟩ => ⟨S_, .i32⟩
  | .hbm, ⟨42, _⟩ => ⟨S1024x1024, .i32⟩
  | .hbm, ⟨43, _⟩ => ⟨S1024x1024, .i32⟩
  | .hbm, ⟨44, _⟩ => ⟨S_, .i32⟩
  | .hbm, ⟨45, _⟩ => ⟨S1024x1024, .i32⟩
  | .hbm, ⟨46, _⟩ => ⟨S1024x1024, .i32⟩
  | .hbm, ⟨47, _⟩ => ⟨S_, .i32⟩
  | .hbm, ⟨48, _⟩ => ⟨S1024x1024, .i32⟩
  | .hbm, ⟨49, _⟩ => ⟨S1024x1024, .i32⟩
  | .hbm, ⟨50, _⟩ => ⟨S1024x1024, .f32⟩
  | .hbm, ⟨51, _⟩ => ⟨S1024x1024, .bf16⟩
  | .hbm, ⟨52, _⟩ => ⟨S3x384x4x1024, .f32⟩
  | .hbm, ⟨53, _⟩ => ⟨S_, .f32⟩
  | .hbm, ⟨54, _⟩ => ⟨S3x384x4x1024, .f32⟩
  | .hbm, ⟨55, _⟩ => ⟨S3x384x4x1024, .f32⟩
  | .hbm, ⟨56, _⟩ => ⟨S3x384x4x1024, .bf16⟩
  | .hbm, ⟨57, _⟩ => ⟨S3x384x4096, .bf16⟩
  | .hbm, ⟨58, _⟩ => ⟨S14336x2048, .i32⟩
  | .hbm, ⟨59, _⟩ => ⟨S_, .i32⟩
  | .hbm, ⟨60, _⟩ => ⟨S14336x2048, .i32⟩
  | .hbm, ⟨61, _⟩ => ⟨S14336x2048, .i1⟩
  | .hbm, ⟨62, _⟩ => ⟨S_, .i32⟩
  | .hbm, ⟨63, _⟩ => ⟨S14336x2048, .i32⟩
  | .hbm, ⟨64, _⟩ => ⟨S14336x2048, .i32⟩
  | .hbm, ⟨65, _⟩ => ⟨S14336x2048, .i32⟩
  | .hbm, ⟨66, _⟩ => ⟨S14336x2048x1, .i32⟩
  | .hbm, ⟨67, _⟩ => ⟨S14336x2048x2, .bf16⟩
  | .hbm, ⟨68, _⟩ => ⟨S14336x4x512x2, .bf16⟩
  | .hbm, ⟨69, _⟩ => ⟨S14336x4, .bf16⟩
  | .hbm, ⟨70, _⟩ => ⟨S14336x4x1x1, .bf16⟩
  | .hbm, ⟨71, _⟩ => ⟨S14336x4x512x2, .bf16⟩
  | .hbm, ⟨72, _⟩ => ⟨S14336x4x512x2, .bf16⟩
  | .hbm, ⟨73, _⟩ => ⟨S3x384x4x512x2, .bf16⟩
  | .hbm, ⟨74, _⟩ => ⟨S3x384x14336, .f32⟩
  | .hbm, ⟨75, _⟩ => ⟨S3x384x14336, .bf16⟩
  | _, _ => ⟨S3x384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c : Ref sig .tc := ⟨.hbm, 41, rfl⟩
abbrev main_v32 : Ref sig .tc := ⟨.hbm, 42, rfl⟩
abbrev main_v33 : Ref sig .tc := ⟨.hbm, 43, rfl⟩
abbrev main_c_2 : Ref sig .tc := ⟨.hbm, 44, rfl⟩
abbrev main_v34 : Ref sig .tc := ⟨.hbm, 45, rfl⟩
abbrev main_v35 : Ref sig .tc := ⟨.hbm, 46, rfl⟩
abbrev main_c_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== Proof.KernelFrame.Runs.lean ====
/- What the runs of the printed kernel share: its @main around the pipelined region, the contents of the arrays there, each
   window's block at a grid point, and the staging and scratch buffers a point of the grid works on. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v7, main_v8}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the library's FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the library's FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): the library's FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): the library's FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): the library's FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): the library's FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): the library's FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): the library's FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): the library's FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): the library's FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    the library's Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 7 rfl).trans ((hA c 7).trans (V_main_arg4 m c)),
      ((h c).2 main_arg5 (Finset.mem_sdiff.mpr ⟨Pipeline.mem_restRefs_of main_arg5 (by decide) (by decide), by decide⟩)).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## The kernel body on any staging memrefs: a subtype the run finds -/

/-- Each window's current staging memref at point `t`, spelled as the pipeline passes it (`bodyAt0`), and its wholeness. -/
abbrev ms0_0 (t : Fin cfg0.N) : Memref sig .tc .vmem S1152x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1152x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1152x512 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S16x1152x256 .bf16 := Memref.whole cc0_scratch0
abbrev scM0_1 : Memref sig .tc .vmem S512x4096 .bf16 := Memref.whole cc0_scratch1
abbrev scM0_2 : Memref sig .tc .vmem S512x4096 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KernelFrame.RunA.lean ====
/- The kernel's body at the first grid point, on any staging buffers: it runs and leaves its inputs as they are. -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 28092000 in
/-- The body's triple IN CASE A (`scf.if` 0 taken: points 0): on whole staging memrefs — the inputs' at their contents,
    the FORGOTTEN outputs' (11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1152x4096 .bf16) (harg1 : arg1.IsWhole) (arg2 : Memref sig .tc .vmem S1x4096 .f32) (harg2 : arg2.IsWhole) (arg3 : Memref sig .tc .vmem S1x4096 .i8) (harg3 : arg3.IsWhole) (arg4 : Memref sig .tc .vmem S256x256 .bf16) (harg4 : arg4.IsWhole) (arg5 : Memref sig .tc .vmem S2x128 .i32) (harg5 : arg5.IsWhole) (arg6 : Memref sig .tc .vmem S512x2048 .i8) (harg6 : arg6.IsWhole) (arg7 : Memref sig .tc .vmem S512x2048 .i8) (harg7 : arg7.IsWhole) (arg8 : Memref sig .tc .vmem S512x2048 .i8) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (arg12 : Memref sig .tc .vmem S1152x1024 .bf16) (harg12 : arg12.IsWhole) (arg13 : Memref sig .tc .vmem S1152x512 .bf16) (harg13 : arg13.IsWhole) (arg14 : Memref sig .tc .vmem S16x1152x256 .bf16) (harg14 : arg14.IsWhole) (arg15 : Memref sig .tc .vmem S512x4096 .bf16) (harg15 : arg15.IsWhole) (arg16 : Memref sig .tc .vmem S512x4096 .bf16) (harg16 : arg16.IsWhole) (hc0 : cond0_0 i)
    (x0 : Vec F S1152x4096 .bf16) (x1 : Vec F S1x4096 .f32) (x2 : Vec F S1x4096 .i8) (x3 : Vec F S256x256 .bf16) (x4 : Vec F S2x128 .i32) (x5 : Vec F S512x2048 .i8) (x6 : Vec F S512x2048 .i8) (x7 : Vec F S512x2048 .i8) (x8 : Vec F S4x512 .f32) (x9 : Vec F S4x512 .f32) (x10 : Vec F S4x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_higgs_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_higgs_linear_eq_skeleton]; unfold cc0_higgs_linear_skel
    simp only [k0_part587_eq_skeleton, k0_part194_eq_skeleton, k0_part191_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part192_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part193_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part588_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part589_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part590_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part591_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part592_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part593_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KernelFrame.RunB.lean ====
/- The kernel's body at a later grid point, on any staging buffers: it runs and leaves its inputs as they are. -/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 19252000 in
/-- The body's triple IN CASE B (`scf.if` 0 not taken: points 1, 2, … 13: 13 of 14): on whole staging memrefs — the inputs' at their contents,
    the FORGOTTEN outputs' (11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1152x4096 .bf16) (harg1 : arg1.IsWhole) (arg2 : Memref sig .tc .vmem S1x4096 .f32) (harg2 : arg2.IsWhole) (arg3 : Memref sig .tc .vmem S1x4096 .i8) (harg3 : arg3.IsWhole) (arg4 : Memref sig .tc .vmem S256x256 .bf16) (harg4 : arg4.IsWhole) (arg5 : Memref sig .tc .vmem S2x128 .i32) (harg5 : arg5.IsWhole) (arg6 : Memref sig .tc .vmem S512x2048 .i8) (harg6 : arg6.IsWhole) (arg7 : Memref sig .tc .vmem S512x2048 .i8) (harg7 : arg7.IsWhole) (arg8 : Memref sig .tc .vmem S512x2048 .i8) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (arg12 : Memref sig .tc .vmem S1152x1024 .bf16) (harg12 : arg12.IsWhole) (arg13 : Memref sig .tc .vmem S1152x512 .bf16) (harg13 : arg13.IsWhole) (arg14 : Memref sig .tc .vmem S16x1152x256 .bf16) (harg14 : arg14.IsWhole) (arg15 : Memref sig .tc .vmem S512x4096 .bf16) (harg15 : arg15.IsWhole) (arg16 : Memref sig .tc .vmem S512x4096 .bf16) (harg16 : arg16.IsWhole) (hc0 : ¬cond0_0 i)
    (x0 : Vec F S1152x4096 .bf16) (x1 : Vec F S1x4096 .f32) (x2 : Vec F S1x4096 .i8) (x3 : Vec F S256x256 .bf16) (x4 : Vec F S2x128 .i32) (x5 : Vec F S512x2048 .i8) (x6 : Vec F S512x2048 .i8) (x7 : Vec F S512x2048 .i8) (x8 : Vec F S4x512 .f32) (x9 : Vec F S4x512 .f32) (x10 : Vec F S4x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_higgs_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_higgs_linear_eq_skeleton]; unfold cc0_higgs_linear_skel
    simp only [k0_part587_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part588_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part589_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part590_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part591_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part592_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part593_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KernelFrame.Frame.lean ====
/- The printed kernel terminates, leaves its arguments unchanged and ends with every semaphore counter at zero, whatever the
   values; nothing is said here of what it computes. -/
module

public import proofs.«01_k».proof.Proof.KernelFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (11, 12): nothing reads what the kernel leaves in them, so nothing
    of it is named (the library's Dat.lean `Dat.toRForget`). -/
def forgets0 : Fin 13 → Bool := fun w => w.val == 11 || w.val == 12

/-- The proof data of the one pipeline on core `c`: the arrays as the region finds them (`V`); after the body at
    point `t` each input's buffer at its block and the outputs, FORGOTTEN, at `Dat.unnamed`; the invariant the class's
    (the library's Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  have hN : t.val < 14 := lt_of_lt_of_eq t.isLt (show cfg0.N = 14 from N_0)
  by_cases h0 : t.val % 14 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (the library's FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget_shared (Q' := _) cfgs (dats m) (0 : Fin 1) launch₀0 defs₀ Variants.none forgets0 T0 m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 11, 12) (the library's Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The kernel terminates, leaves its arguments unchanged, and ends with every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.Walk.lean ====
/- Triples for straight-line kernel code over a state of buffer contents.  A triple says: from any state with
   property `P`, the program runs and ends at a result and a state with property `Q`.  The buffers themselves are
   behind one assertion `R` on states, and what a load or a store needs of it is said once per buffer
   (`Rd`, `Wr`). -/
module

public import proofs.«01_k».proof.Proof.Gen.KernelIdeal.Launch
public import Idealize.ShloMosaic.Lib.Pipeline.FrameBody
public import Idealize.ShloMosaic.Lib.Tactic

@[expose] public section

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Assertions about the machine's buffers at values `F`. -/
abbrev AP (F : FTy → Type) : Type := sProp (MT nD τ sig Unit (Elt F) ℕ (UR sig nD τ) ℕ)

variable {F : FTy → Type} [FloatOps F]

variable {σ : Type} (c : Dev nD) (E : Set ℕ) (R : σ → AP F)

/-- From any state with `P` the program runs and ends at a result and a state with `Q`. -/
structure Tr (P : σ → Prop) {α : Type} (p : Prog (TpuEff nD τ sig (Elt F) Λ₀ .tc) α) (Q : α → σ → Prop) : Prop where
  run : ∀ s, P s → R s ⊢ wp frame (wpE (defs₀ (F := F)) Variants.none (c : Thread nD τ) none) E p
    (fun a => iprop(∃ s', ⌜Q a s'⌝ ∗ R s'))

/-- The assertion `R` gives the memref at contents `f s`, and takes it back at the same. -/
structure Rd {sh : Shape} {e : EltTy} (m : Memref sig .tc .vmem sh e) (f : σ → sh.Idx → Elt F e) : Prop where
  rd : ∀ s, R s ⊢ iprop(owns (c : Thread nD τ) m fullShare (f s) ∗ (owns (c : Thread nD τ) m fullShare (f s) -∗ R s))

/-- The assertion `R` gives the memref at contents `f s`, and takes it back at any contents, in the state `u s w`. -/
structure Wr {sh : Shape} {e : EltTy} (m : Memref sig .tc .vmem sh e) (f : σ → sh.Idx → Elt F e)
    (u : σ → (sh.Idx → Elt F e) → σ) : Prop where
  wr : ∀ s, R s ⊢ iprop(owns (c : Thread nD τ) m fullShare (f s) ∗ (∀ w, owns (c : Thread nD τ) m fullShare w -∗ R (u s w)))

variable {c E R}
variable {α β : Type} {P P' : σ → Prop}

/-- A program that returns. -/
theorem Tr.ret {a : α} {Q : α → σ → Prop} (h : ∀ s, P s → Q a s) : Tr c E R P (.ret a) Q :=
  ⟨fun s hs => by
    rw [wp_ret]
    iintro H
    imodintro
    iexists s
    isplitr
    · ipureintro; exact h s hs
    · iexact H⟩

/-- A program that returns, by its result. -/
theorem Tr.pure' {a : α} : Tr c E R P (pure a) (fun b s => b = a ∧ P s) := Tr.ret fun _ h => ⟨rfl, h⟩

/-- A program that returns, by what holds after it. -/
theorem Tr.ret' {a : α} : Tr c E R P (.ret a) (fun b s => b = a ∧ P s) := Tr.ret fun _ h => ⟨rfl, h⟩

/-- Two programs one after the other. -/
theorem Tr.bind {p : Prog (TpuEff nD τ sig (Elt F) Λ₀ .tc) α} {k : α → Prog (TpuEff nD τ sig (Elt F) Λ₀ .tc) β}
    {M : α → σ → Prop} {Q : β → σ → Prop} (hp : Tr c E R P p M) (hk : ∀ a, Tr c E R (M a) (k a) Q) :
    Tr c E R P (p >>= k) Q :=
  ⟨fun s hs => by
    rw [wp_bind]
    refine (hp.run s hs).trans (wp_mono _ _ _ fun a => ?_)
    iintro ⟨%s', %hM, H⟩
    iapply ((hk a).run s' hM)
    iexact H⟩

/-- A stronger condition before, a weaker one after. -/
theorem Tr.conseq {p : Prog (TpuEff nD τ sig (Elt F) Λ₀ .tc) α} {Q Q' : α → σ → Prop} (hp : Tr c E R P p Q)
    (h : ∀ s, P' s → P s) (hq : ∀ a s, Q a s → Q' a s) : Tr c E R P' p Q' :=
  ⟨fun s hs => (hp.run s (h s hs)).trans (wp_mono _ _ _ fun a => by
    iintro ⟨%s', %hM, H⟩
    iexists s'
    isplitr
    · ipureintro; exact hq a s' hM
    · iexact H)⟩

/-- A step whose result is known. -/
theorem Tr.step {p : Prog (TpuEff nD τ sig (Elt F) Λ₀ .tc) α} {k : α → Prog (TpuEff nD τ sig (Elt F) Λ₀ .tc) β}
    {v : α} {Q : β → σ → Prop} (hp : Tr c E R P p (fun a s => a = v ∧ P' s)) (hk : Tr c E R P' (k v) Q) :
    Tr c E R P (p >>= k) Q :=
  hp.bind fun a => ⟨fun s ⟨ha, hs⟩ => by subst ha; exact hk.run s hs⟩

/-- A stronger condition before. -/
theorem Tr.weaken {p : Prog (TpuEff nD τ sig (Elt F) Λ₀ .tc) α} {Q : α → σ → Prop} (h : ∀ s, P' s → P s)
    (hp : Tr c E R P p Q) : Tr c E R P' p Q := hp.conseq h fun _ _ h => h

/-- The branch that a condition takes. -/
theorem Tr.pos {b : Prop} [Decidable b] {p : b → Prog (TpuEff nD τ sig (Elt F) Λ₀ .tc) α} {q : ¬ b → Prog (TpuEff nD τ sig (Elt F) Λ₀ .tc) α}
    {Q : α → σ → Prop} (hb : b) (h : Tr c E R P (p hb) Q) : Tr c E R P (dite b p q) Q := by rw [dif_pos hb]; exact h

/-- The branch that a failing condition takes. -/
theorem Tr.neg {b : Prop} [Decidable b] {p : b → Prog (TpuEff nD τ sig (Elt F) Λ₀ .tc) α} {q : ¬ b → Prog (TpuEff nD τ sig (Elt F) Λ₀ .tc) α}
    {Q : α → σ → Prop} (hb : ¬ b) (h : Tr c E R P (q hb) Q) : Tr c E R P (dite b p q) Q := by rw [dif_neg hb]; exact h

/-- One operation is a program that performs it and returns. -/
theorem wp_lift {γ : Type} (e : TpuEff nD τ sig (Elt F) Λ₀ .tc γ) : (Prog.lift e : Prog _ γ) = .op e .ret := rfl

/-- A load: the result is what the buffer holds at the loaded places. -/
theorem Tr.load {sh : Shape} {e : EltTy} {m : Memref sig .tc .vmem sh e} {f : σ → sh.Idx → Elt F e} (h : Rd c R m f)
    {r : LoadRect sh} {hl : m.view.LoadsAt r} {v : r.shape.Idx → Elt F e}
    (hv : ∀ s, P s → ∀ x, f s (r.idx x) = v x) :
    Tr c E R P (Prog.lift (.load m r hl)) (fun a s => a = v ∧ P s) :=
  ⟨fun s hs => by
    rw [wp_lift]
    refine (h.rd s).trans ?_
    unfold owns
    iintro ⟨⟨%g, %hg, Hm⟩, Hr⟩
    have hS : m.view.setOn r.set ⊆ m.view.set := m.view.setOn_subset_set _
    iapply (wp_load (defs := defs₀ (F := F)) Variants.none (c : Thread nD τ) none E hS) $$ [Hm]
    · iexact Hm
    iintro Hm
    rw [wp_ret]
    imodintro
    iexists s
    isplitr
    · ipureintro
      refine ⟨funext fun x => ?_, hs⟩
      rw [View.readAt_apply, hg]
      exact hv s hs x
    · iapply Hr
      iexists g
      isplitr
      · ipureintro; exact hg
      · iexact Hm⟩

/-- A load whose result is not used. -/
theorem Tr.loadDead {sh : Shape} {e : EltTy} {m : Memref sig .tc .vmem sh e} {f : σ → sh.Idx → Elt F e} (h : Rd c R m f)
    {r : LoadRect sh} {hl : m.view.LoadsAt r} {k : (r.shape.Idx → Elt F e) → Prog (TpuEff nD τ sig (Elt F) Λ₀ .tc) β}
    {Q : β → σ → Prop} (hk : ∀ v, Tr c E R P (k v) Q) :
    Tr c E R P (Prog.lift (.load m r hl) >>= k) Q :=
  ⟨fun s hs => by
    have hl' : Tr c E R (fun t => t = s) (Prog.lift (.load m r hl)) (fun a t => a = (fun x => f s (r.idx x)) ∧ t = s) :=
      Tr.load h fun t ht x => by rw [ht]
    exact (hl'.step ((hk _).weaken fun t ht => by rw [ht]; exact hs)).run s rfl⟩

/-- A store over a whole rectangle: afterwards the buffer holds the stored values there and what it held elsewhere. -/
theorem Tr.store {sh : Shape} {e : EltTy} {m : Memref sig .tc .vmem sh e} {f : σ → sh.Idx → Elt F e}
    {u : σ → (sh.Idx → Elt F e) → σ} (h : Wr c R m f u)
    {r : Rect sh} {v : r.shape.Idx → Elt F e} {hx : (m.access r).Stores Finset.univ} {hm}
    {Q : PUnit → σ → Prop}
    (hq : ∀ s, P s → ∀ w : sh.Idx → Elt F e, (∀ x, w (r.emb x) = v x) → (∀ y, (∀ x, r.emb x ≠ y) → w y = f s y) → Q ⟨⟩ (u s w)) :
    Tr c E R P (Prog.lift (.store m r v Finset.univ hx hm)) Q :=
  ⟨fun s hs => by
    rw [wp_lift]
    refine (h.wr s).trans ?_
    unfold owns
    iintro ⟨⟨%g, %hg, Hm⟩, Hr⟩
    have hS : (m.access r).setOn Finset.univ ⊆ m.view.set :=
      ((m.view.slice r).setOn_subset_set _).trans (m.view.set_slice_subset r)
    iapply (wp_store (defs := defs₀ (F := F)) Variants.none (c : Thread nD τ) none E hS) $$ [Hm]
    · iexact Hm
    iintro Hm
    rw [wp_ret]
    imodintro
    iexists (u s (m.view.read (Elt F) ((m.view.slice r).write (Elt F) g v Finset.univ)))
    isplitr
    · ipureintro
      refine hq s hs _ (fun x => ?_) (fun y hy => ?_)
      · exact View.read_slice_write_emb r g v (Finset.mem_univ x)
      · rw [View.read_slice_write_of_not_mem r g v _ (by
          intro hy'; obtain ⟨x, -, hx⟩ := Finset.mem_map.mp hy'; exact hy x hx), hg]
    · iapply Hr
      iexists _
      isplitr
      · ipureintro; rfl
      · iexact Hm⟩

/-- A counted loop by an invariant on the state before each trip. -/
theorem Tr.for {w : ℕ} (l : Scf.Loop w) (hok : l.OK) {body : Fin l.trips → PUnit → Prog (TpuEff nD τ sig (Elt F) Λ₀ .tc) PUnit}
    (I : ℕ → σ → Prop) (hb : ∀ k : Fin l.trips, Tr c E R (I k.val) (body k ⟨⟩) (fun _ => I (k.val + 1))) :
    Tr c E R (I 0) (l.for hok ⟨⟩ body) (fun a s => a = ⟨⟩ ∧ I l.trips s) :=
  ⟨fun s hs => by
    refine BIBase.Entails.trans ?_ (Scf.wp_for frame (wpE (defs₀ (F := F)) Variants.none (c : Thread nD τ) none) E l.lb l.ub l.st hok ⟨⟩ body
      (fun n _ => iprop(∃ s', ⌜I n s'⌝ ∗ R s')) (fun k acc => ?_))
    · iintro H
      isplitl [H]
      · iexists s
        isplitr
        · ipureintro; exact hs
        · iexact H
      · iintro %a ⟨%s', %hM, H⟩
        iexists s'
        isplitr
        · ipureintro; exact ⟨rfl, hM⟩
        · iexact H
    · iintro ⟨%s', %hM, H⟩
      iapply ((hb k).run s' hM)
      iexact H⟩

end Cert.KernelIdeal.Walk
-- ==== Proof.Tiles.lean ====
/- The kernel's buffers, and the rules by which a walk over its body fills them tile by tile.
   A buffer filled up to tile `n` of a numbering holds the tile values `T 0, …, T (n - 1)` at their places; a store
   of tile `n`'s value at tile `n`'s place fills it up to `n + 1`. -/
module

public import proofs.«01_k».proof.Proof.Walk
public import Idealize.ShloMosaic.Lib.ValueLayout

@[expose] public section

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.Sem
open Idealize.ShloMosaic.ValueIdx

variable {F : FTy → Type} [FloatOps F]

/-- The contents the body changes: the rotated activations, the two decoded weight blocks, and the two result blocks. -/
structure Bufs (F : FTy → Type) where
  xp : Vec F S16x1152x256 .bf16
  wa : Vec F S512x4096 .bf16
  wb : Vec F S512x4096 .bf16
  xr : Vec F S1152x512 .bf16
  y : Vec F S1152x1024 .bf16

/-- A property of the state, buffer by buffer. -/
structure St (Px : Vec F S16x1152x256 .bf16 → Prop) (Pa Pb : Vec F S512x4096 .bf16 → Prop)
    (Pr : Vec F S1152x512 .bf16 → Prop) (Py : Vec F S1152x1024 .bf16 → Prop) (s : Bufs F) : Prop where
  xp : Px s.xp
  wa : Pa s.wa
  wb : Pb s.wb
  xr : Pr s.xr
  y : Py s.y

/-- The block of `x` of sizes `sz` at row `a` and column `b`. -/
def blk2 {V : Type} (x : ℕ → ℕ → V) (sz : Fin 2 → ℕ) (a b : ℕ) : (⟨2, sz⟩ : Shape).Idx → V :=
  fun k => x (a + k 0) (b + k 1)

/-- The block of `x` of sizes `sz` at `(a, b, d)`. -/
def blk3 {V : Type} (x : ℕ → ℕ → ℕ → V) (sz : Fin 3 → ℕ) (a b d : ℕ) : (⟨3, sz⟩ : Shape).Idx → V :=
  fun k => x (a + k 0) (b + k 1) (d + k 2)

/-- The buffer holds `x` everywhere. -/
def Full2 {V : Type} {sz : Fin 2 → ℕ} (x : ℕ → ℕ → V) (w : (⟨2, sz⟩ : Shape).Idx → V) : Prop := ∀ i, w i = x (i 0) (i 1)

/-- The buffer holds `x` everywhere. -/
def Full3 {V : Type} {sz : Fin 3 → ℕ} (x : ℕ → ℕ → ℕ → V) (w : (⟨3, sz⟩ : Shape).Idx → V) : Prop :=
  ∀ i, w i = x (i 0) (i 1) (i 2)

/-- Filled up to tile `n`: at every place of an earlier tile the buffer holds that tile's value, and elsewhere it holds
    what `g` holds. -/
def Upto {I J V : Type} (tile : I → ℕ) (win : I → J) (T : ℕ → J → V) (g : I → V) (n : ℕ) (w : I → V) : Prop :=
  ∀ i, w i = if tile i < n then T (tile i) (win i) else g i

variable {c : Dev nD} {E : Set ℕ} {R : Bufs F → AP F}
variable {P : Bufs F → Prop}
variable {Px : Vec F S16x1152x256 .bf16 → Prop} {Pa Pb : Vec F S512x4096 .bf16 → Prop}
    {Pr : Vec F S1152x512 .bf16 → Prop} {Py : Vec F S1152x1024 .bf16 → Prop}

/-- What the body holds: the eleven inputs at fixed contents, the outputs and the scratch at the state's. -/
structure Env (c : Dev nD) (R : Bufs F → AP F)
    (x0 : ℕ → ℕ → Elt F .bf16) (x1 : ℕ → ℕ → Elt F .f32) (x2 : ℕ → ℕ → Elt F .i8) (x3 : ℕ → ℕ → Elt F .bf16)
    (x4 : ℕ → ℕ → Elt F .i32) (x5 x6 x7 : ℕ → ℕ → Elt F .i8) (x8 x9 x10 : ℕ → ℕ → Elt F .f32)
    (arg1 : Memref sig .tc .vmem S1152x4096 .bf16) (arg2 : Memref sig .tc .vmem S1x4096 .f32) (arg3 : Memref sig .tc .vmem S1x4096 .i8)
    (arg4 : Memref sig .tc .vmem S256x256 .bf16) (arg5 : Memref sig .tc .vmem S2x128 .i32)
    (arg6 arg7 arg8 : Memref sig .tc .vmem S512x2048 .i8) (arg9 arg10 arg11 : Memref sig .tc .vmem S4x512 .f32)
    (arg12 : Memref sig .tc .vmem S1152x1024 .bf16) (arg13 : Memref sig .tc .vmem S1152x512 .bf16)
    (arg14 : Memref sig .tc .vmem S16x1152x256 .bf16) (arg15 arg16 : Memref sig .tc .vmem S512x4096 .bf16) : Prop where
  r1 : Rd c R arg1 (fun _ i => x0 (i 0) (i 1))
  r2 : Rd c R arg2 (fun _ i => x1 (i 0) (i 1))
  r3 : Rd c R arg3 (fun _ i => x2 (i 0) (i 1))
  r4 : Rd c R arg4 (fun _ i => x3 (i 0) (i 1))
  r5 : Rd c R arg5 (fun _ i => x4 (i 0) (i 1))
  r6 : Rd c R arg6 (fun _ i => x5 (i 0) (i 1))
  r7 : Rd c R arg7 (fun _ i => x6 (i 0) (i 1))
  r8 : Rd c R arg8 (fun _ i => x7 (i 0) (i 1))
  r9 : Rd c R arg9 (fun _ i => x8 (i 0) (i 1))
  r10 : Rd c R arg10 (fun _ i => x9 (i 0) (i 1))
  r11 : Rd c R arg11 (fun _ i => x10 (i 0) (i 1))
  r12 : Rd c R arg12 Bufs.y
  r13 : Rd c R arg13 Bufs.xr
  r14 : Rd c R arg14 Bufs.xp
  r15 : Rd c R arg15 Bufs.wa
  r16 : Rd c R arg16 Bufs.wb
  w12 : Wr c R arg12 Bufs.y (fun s w => { s with y := w })
  w13 : Wr c R arg13 Bufs.xr (fun s w => { s with xr := w })
  w14 : Wr c R arg14 Bufs.xp (fun s w => { s with xp := w })
  w15 : Wr c R arg15 Bufs.wa (fun s w => { s with wa := w })
  w16 : Wr c R arg16 Bufs.wb (fun s w => { s with wb := w })

/-! ## Loads -/

/-- A load of an input's block. -/
theorem ldC {e : EltTy} {d sz : Fin 2 → ℕ} {m : Memref sig .tc .vmem ⟨2, d⟩ e} {x : ℕ → ℕ → Elt F e}
    (h : Rd c R m (fun _ i => x (i 0) (i 1))) {a b : ℕ} {inb} {hl} :
    Tr c E R P (Prog.lift (.load m (Rect.unit (s := ⟨2, d⟩) ![a, b] sz inb).toLoadRect hl)) (fun v s => v = blk2 x sz a b ∧ P s) :=
  Tr.load h fun s _ k => by
    show x (![a, b] 0 + 1 * k 0) (![a, b] 1 + 1 * k 1) = x (a + k 0) (b + k 1)
    simp only [one_mul]; rfl

/-- A load of an input's block, its place given by an equation. -/
theorem ldCd {e : EltTy} {d sz off : Fin 2 → ℕ} {m : Memref sig .tc .vmem ⟨2, d⟩ e} {x : ℕ → ℕ → Elt F e}
    (h : Rd c R m (fun _ i => x (i 0) (i 1))) {a b : ℕ} {inb} {hl} (ho : off = ![a, b]) :
    Tr c E R P (Prog.lift (.load m (Rect.unit (s := ⟨2, d⟩) off sz inb).toLoadRect hl)) (fun v s => v = blk2 x sz a b ∧ P s) := by
  subst ho; exact ldC h

/-- A load of a block of the rotated activations, when they are all there. -/
theorem ldX {sz off : Fin 3 → ℕ} {m : Memref sig .tc .vmem S16x1152x256 .bf16} {X : ℕ → ℕ → ℕ → F .bf16}
    (h : Rd c R m Bufs.xp) {a b d : ℕ} {inb} {hl} (ho : off = ![a, b, d]) :
    Tr c E R (St (Full3 X) Pa Pb Pr Py) (Prog.lift (.load m (Rect.unit (s := S16x1152x256) off sz inb).toLoadRect hl))
      (fun v s => v = blk3 X sz a b d ∧ St (Full3 X) Pa Pb Pr Py s) :=
  Tr.load h fun s hs k => by
    subst ho
    rw [hs.xp]
    show X (![a, b, d] 0 + 1 * k 0) (![a, b, d] 1 + 1 * k 1) (![a, b, d] 2 + 1 * k 2) = X (a + k 0) (b + k 1) (d + k 2)
    simp only [one_mul]; rfl

/-- A load of a block of the first decoded weights, when they are all there. -/
theorem ldA {sz : Fin 2 → ℕ} {m : Memref sig .tc .vmem S512x4096 .bf16} {W : ℕ → ℕ → F .bf16}
    (h : Rd c R m Bufs.wa) {a b : ℕ} {inb} {hl} :
    Tr c E R (St Px (Full2 W) Pb Pr Py) (Prog.lift (.load m (Rect.unit (s := S512x4096) ![a, b] sz inb).toLoadRect hl))
      (fun v s => v = blk2 W sz a b ∧ St Px (Full2 W) Pb Pr Py s) :=
  Tr.load h fun s hs k => by
    rw [hs.wa]
    show W (![a, b] 0 + 1 * k 0) (![a, b] 1 + 1 * k 1) = W (a + k 0) (b + k 1)
    simp only [one_mul]; rfl

/-- A load of a block of the second decoded weights, when they are all there. -/
theorem ldB {sz : Fin 2 → ℕ} {m : Memref sig .tc .vmem S512x4096 .bf16} {W : ℕ → ℕ → F .bf16}
    (h : Rd c R m Bufs.wb) {a b : ℕ} {inb} {hl} :
    Tr c E R (St Px Pa (Full2 W) Pr Py) (Prog.lift (.load m (Rect.unit (s := S512x4096) ![a, b] sz inb).toLoadRect hl))
      (fun v s => v = blk2 W sz a b ∧ St Px Pa (Full2 W) Pr Py s) :=
  Tr.load h fun s hs k => by
    rw [hs.wb]
    show W (![a, b] 0 + 1 * k 0) (![a, b] 1 + 1 * k 1) = W (a + k 0) (b + k 1)
    simp only [one_mul]; rfl

/-! ## Stores -/

/-- A store of tile `n`'s value at tile `n`'s place. -/
theorem upto_succ {sh : Shape} {V : Type} {r : Rect sh} {J : Type} {tile : sh.Idx → ℕ} {win : sh.Idx → J}
    {T : ℕ → J → V} {n : ℕ} {g₀ g w : sh.Idx → V} {v : r.shape.Idx → V} (p : sh.Idx → r.shape.Idx)
    (hg : Upto tile win T g₀ n g) (h1 : ∀ i, tile i = n → r.emb (p i) = i) (h2 : ∀ x, tile (r.emb x) = n)
    (hv : ∀ i, tile i = n → v (p i) = T n (win i))
    (hw : ∀ x, w (r.emb x) = v x) (hw' : ∀ y, (∀ x, r.emb x ≠ y) → w y = g y) : Upto tile win T g₀ (n + 1) w := by
  intro i
  by_cases h : tile i = n
  · rw [if_pos (by omega), ← h1 i h, hw, hv i h, h1 i h, h]
  · rw [hw' i fun x hx => h (by rw [← hx]; exact h2 x), hg i]
    by_cases h' : tile i < n
    · rw [if_pos h', if_pos (by omega)]
    · rw [if_neg h', if_neg (by omega)]

/-- Decoded weights are filled 32 rows by 128 columns at a time, along the rows. -/
def tileD (i : S512x4096.Idx) : ℕ := 32 * ((i 0).val / 32) + (i 1).val / 128
/-- The place within the tile. -/
def winD (i : S512x4096.Idx) : S32x128.Idx :=
  ix2 (n0 := 32) (n1 := 128) ⟨(i 0).val % 32, Nat.mod_lt _ (by decide)⟩ ⟨(i 1).val % 128, Nat.mod_lt _ (by decide)⟩

/-- Every element of a stored tile of a decoded weight block belongs to that tile. -/
theorem tileD_emb {n : ℕ} {off : Fin 2 → ℕ} {inb} (hlt : n < 512) (ho : off = ![32 * (n / 32), 128 * (n % 32)])
    (x : (Rect.unit (s := S512x4096) off S32x128.size inb).shape.Idx) : tileD ((Rect.unit (s := S512x4096) off S32x128.size inb).emb x) = n := by
  subst ho
  have h0 : (x 0).val < 32 := (x 0).isLt
  have h1 : (x 1).val < 128 := (x 1).isLt
  unfold tileD
  show 32 * ((32 * (n / 32) + 1 * (x 0).val) / 32) + (128 * (n % 32) + 1 * (x 1).val) / 128 = n
  omega

/-- Storing the next tile of a decoded weight block leaves one more tile filled. -/
theorem uptoD {T : ℕ → Vec F S32x128 .bf16} {n n' : ℕ} {g₀ g w : Vec F S512x4096 .bf16} {off : Fin 2 → ℕ} {inb}
    {v : Vec F S32x128 .bf16} (hn : n + 1 = n') (hlt : n < 512) (ho : off = ![32 * (n / 32), 128 * (n % 32)]) (hv : v = T n)
    (hg : Upto tileD winD T g₀ n g)
    (hw : ∀ x, w ((Rect.unit (s := S512x4096) off S32x128.size inb).emb x) = v x)
    (hw' : ∀ y, (∀ x, (Rect.unit (s := S512x4096) off S32x128.size inb).emb x ≠ y) → w y = g y) :
    Upto tileD winD T g₀ n' w := by
  subst hn; subst ho; subst hv
  refine upto_succ (v := T n) winD hg (fun i hi => ?_) (fun x => ?_) (fun i _ => rfl) hw hw'
  · have h0 := (i 0).isLt
    have h1 := (i 1).isLt
    change (i 0).val < 512 at h0
    change (i 1).val < 4096 at h1
    unfold tileD at hi
    funext a; apply Fin.ext
    rcases a with ⟨_ | _ | k, hb⟩
    · show 32 * (n / 32) + 1 * ((i 0).val % 32) = (i 0).val
      omega
    · show 128 * (n % 32) + 1 * ((i 1).val % 128) = (i 1).val
      omega
    · exact absurd hb (by simp)
  · exact tileD_emb hlt rfl x

/-- A rotated result block is filled 128 rows by 128 columns at a time, 256 columns after 256 columns. -/
def tileR (i : S1152x512.Idx) : ℕ := 18 * ((i 1).val / 256) + 2 * ((i 0).val / 128) + (i 1).val / 128 % 2
/-- The place within the tile. -/
def winR (i : S1152x512.Idx) : S128x128.Idx :=
  ix2 (n0 := 128) (n1 := 128) ⟨(i 0).val % 128, Nat.mod_lt _ (by decide)⟩ ⟨(i 1).val % 128, Nat.mod_lt _ (by decide)⟩

/-- Every element of a stored tile of a rotated result block belongs to that tile. -/
theorem tileR_emb {n : ℕ} {off : Fin 2 → ℕ} {inb} (hlt : n < 36) (ho : off = ![128 * (n % 18 / 2), 256 * (n / 18) + 128 * (n % 2)])
    (x : (Rect.unit (s := S1152x512) off S128x128.size inb).shape.Idx) : tileR ((Rect.unit (s := S1152x512) off S128x128.size inb).emb x) = n := by
  subst ho
  have h0 : (x 0).val < 128 := (x 0).isLt
  have h1 : (x 1).val < 128 := (x 1).isLt
  unfold tileR
  show 18 * ((256 * (n / 18) + 128 * (n % 2) + 1 * (x 1).val) / 256) + 2 * ((128 * (n % 18 / 2) + 1 * (x 0).val) / 128) + (256 * (n / 18) + 128 * (n % 2) + 1 * (x 1).val) / 128 % 2 = n
  omega

/-- Storing the next tile of a rotated result block leaves one more tile filled. -/
theorem uptoR {T : ℕ → Vec F S128x128 .bf16} {n n' : ℕ} {g₀ g w : Vec F S1152x512 .bf16} {off : Fin 2 → ℕ} {inb}
    {v : Vec F S128x128 .bf16} (hn : n + 1 = n') (hlt : n < 36) (ho : off = ![128 * (n % 18 / 2), 256 * (n / 18) + 128 * (n % 2)]) (hv : v = T n)
    (hg : Upto tileR winR T g₀ n g)
    (hw : ∀ x, w ((Rect.unit (s := S1152x512) off S128x128.size inb).emb x) = v x)
    (hw' : ∀ y, (∀ x, (Rect.unit (s := S1152x512) off S128x128.size inb).emb x ≠ y) → w y = g y) :
    Upto tileR winR T g₀ n' w := by
  subst hn; subst ho; subst hv
  refine upto_succ (v := T n) winR hg (fun i hi => ?_) (fun x => ?_) (fun i _ => rfl) hw hw'
  · have h0 := (i 0).isLt
    have h1 := (i 1).isLt
    change (i 0).val < 1152 at h0
    change (i 1).val < 512 at h1
    unfold tileR at hi
    funext a; apply Fin.ext
    rcases a with ⟨_ | _ | k, hb⟩
    · show 128 * (n % 18 / 2) + 1 * ((i 0).val % 128) = (i 0).val
      omega
    · show 256 * (n / 18) + 128 * (n % 2) + 1 * ((i 1).val % 128) = (i 1).val
      omega
    · exact absurd hb (by simp)
  · exact tileR_emb hlt rfl x

/-- A product block is filled 384 rows by 512 columns at a time, 512 columns after 512 columns. -/
def tileY (i : S1152x1024.Idx) : ℕ := 3 * ((i 1).val / 512) + (i 0).val / 384
/-- The place within the tile. -/
def winY (i : S1152x1024.Idx) : S384x512.Idx :=
  ix2 (n0 := 384) (n1 := 512) ⟨(i 0).val % 384, Nat.mod_lt _ (by decide)⟩ ⟨(i 1).val % 512, Nat.mod_lt _ (by decide)⟩

/-- Every element of a stored tile of a block of products belongs to that tile. -/
theorem tileY_emb {n : ℕ} {off : Fin 2 → ℕ} {inb} (hlt : n < 6) (ho : off = ![384 * (n % 3), 512 * (n / 3)])
    (x : (Rect.unit (s := S1152x1024) off S384x512.size inb).shape.Idx) : tileY ((Rect.unit (s := S1152x1024) off S384x512.size inb).emb x) = n := by
  subst ho
  have h0 : (x 0).val < 384 := (x 0).isLt
  have h1 : (x 1).val < 512 := (x 1).isLt
  unfold tileY
  show 3 * ((512 * (n / 3) + 1 * (x 1).val) / 512) + (384 * (n % 3) + 1 * (x 0).val) / 384 = n
  omega

/-- Storing the next tile of a block of products leaves one more tile filled. -/
theorem uptoY {T : ℕ → Vec F S384x512 .bf16} {n n' : ℕ} {g₀ g w : Vec F S1152x1024 .bf16} {off : Fin 2 → ℕ} {inb}
    {v : Vec F S384x512 .bf16} (hn : n + 1 = n') (hlt : n < 6) (ho : off = ![384 * (n % 3), 512 * (n / 3)]) (hv : v = T n)
    (hg : Upto tileY winY T g₀ n g)
    (hw : ∀ x, w ((Rect.unit (s := S1152x1024) off S384x512.size inb).emb x) = v x)
    (hw' : ∀ y, (∀ x, (Rect.unit (s := S1152x1024) off S384x512.size inb).emb x ≠ y) → w y = g y) :
    Upto tileY winY T g₀ n' w := by
  subst hn; subst ho; subst hv
  refine upto_succ (v := T n) winY hg (fun i hi => ?_) (fun x => ?_) (fun i _ => rfl) hw hw'
  · have h0 := (i 0).isLt
    have h1 := (i 1).isLt
    change (i 0).val < 1152 at h0
    change (i 1).val < 1024 at h1
    unfold tileY at hi
    funext a; apply Fin.ext
    rcases a with ⟨_ | _ | k, hb⟩
    · show 384 * (n % 3) + 1 * ((i 0).val % 384) = (i 0).val
      omega
    · show 512 * (n / 3) + 1 * ((i 1).val % 512) = (i 1).val
      omega
    · exact absurd hb (by simp)
  · exact tileY_emb hlt rfl x

/-- The rotated activations are filled 128 rows of a 256-column block at a time, the 16 blocks of the same rows first. -/
def tileX (i : S16x1152x256.Idx) : ℕ := 16 * ((i 1).val / 128) + (i 0).val
/-- The place within the tile. -/
def winX (i : S16x1152x256.Idx) : S128x256.Idx :=
  ix2 (n0 := 128) (n1 := 256) ⟨(i 1).val % 128, Nat.mod_lt _ (by decide)⟩ (i 2)
/-- The same place, as the store of one block's rows numbers it. -/
def winX' (i : S16x1152x256.Idx) : S1x128x256.Idx :=
  ix3 (n0 := 1) (n1 := 128) (n2 := 256) 0 ⟨(i 1).val % 128, Nat.mod_lt _ (by decide)⟩ (i 2)

/-- Every element of a stored tile of the rotated activations belongs to that tile. -/
theorem tileX_emb {n : ℕ} {off : Fin 3 → ℕ} {inb} (hlt : n < 144) (ho : off = ![n % 16, 128 * (n / 16), 0])
    (x : (Rect.unit (s := S16x1152x256) off S1x128x256.size inb).shape.Idx) : tileX ((Rect.unit (s := S16x1152x256) off S1x128x256.size inb).emb x) = n := by
  subst ho
  have h0 : (x 0).val < 1 := (x 0).isLt
  have h1 : (x 1).val < 128 := (x 1).isLt
  unfold tileX
  show 16 * ((128 * (n / 16) + 1 * (x 1).val) / 128) + (n % 16 + 1 * (x 0).val) = n
  omega

/-- Storing the next tile of the rotated activations leaves one more tile filled. -/
theorem uptoX {T : ℕ → Vec F S128x256 .bf16} {n n' : ℕ} {g₀ g w : Vec F S16x1152x256 .bf16} {off : Fin 3 → ℕ} {inb}
    {v : Vec F S128x256 .bf16} (hn : n + 1 = n') (hlt : n < 144) (ho : off = ![n % 16, 128 * (n / 16), 0]) (hv : v = T n)
    (hg : Upto tileX winX T g₀ n g)
    (hw : ∀ x, w ((Rect.unit (s := S16x1152x256) off S1x128x256.size inb).emb x)
      = shapeCast S1x128x256 v Shapes1.Facts₀.shapeCasts_S128x256_S1x128x256 x)
    (hw' : ∀ y, (∀ x, (Rect.unit (s := S16x1152x256) off S1x128x256.size inb).emb x ≠ y) → w y = g y) :
    Upto tileX winX T g₀ n' w := by
  subst hn; subst ho; subst hv
  refine upto_succ (v := shapeCast S1x128x256 (T n) Shapes1.Facts₀.shapeCasts_S128x256_S1x128x256) winX' hg (fun i hi => ?_) (fun x => ?_) (fun i _ => ?_) hw hw'
  · have h0 : (i 0).val < 16 := (i 0).isLt
    have h1 : (i 1).val < 1152 := (i 1).isLt
    unfold tileX at hi
    funext a; apply Fin.ext
    rcases a with ⟨_ | _ | _ | k, hb⟩
    · show n % 16 + 1 * 0 = (i 0).val
      omega
    · show 128 * (n / 16) + 1 * ((i 1).val % 128) = (i 1).val
      omega
    · show 0 + 1 * (i 2).val = (i 2).val
      omega
    · exact absurd hb (by simp)
  · exact tileX_emb hlt rfl x
  · exact shapeCast_ab_1ab_apply _ _ _ _ _

/-- A store of the next tile of the first decoded weights. -/
theorem stA {m : Memref sig .tc .vmem S512x4096 .bf16} (h : Wr c R m Bufs.wa (fun s w => { s with wa := w }))
    {T : ℕ → Vec F S32x128 .bf16} {g : Vec F S512x4096 .bf16} {n n' : ℕ} {off : Fin 2 → ℕ} {inb} {v : Vec F S32x128 .bf16}
    {hx : (m.access (Rect.unit (s := S512x4096) off S32x128.size inb)).Stores Finset.univ} {hm}
    (hn : n + 1 = n') (hlt : n < 512) (ho : off = ![32 * (n / 32), 128 * (n % 32)]) (hv : v = T n) :
    Tr c E R (St Px (Upto tileD winD T g n) Pb Pr Py) (Prog.lift (.store m (Rect.unit (s := S512x4096) off S32x128.size inb) v Finset.univ hx hm))
      (fun u s => u = ⟨⟩ ∧ St Px (Upto tileD winD T g n') Pb Pr Py s) :=
  Tr.store h fun s hs w hw hw' => ⟨rfl, { hs with wa := uptoD hn hlt ho hv hs.wa hw hw' }⟩

/-- A store of the next tile of the second decoded weights. -/
theorem stB {m : Memref sig .tc .vmem S512x4096 .bf16} (h : Wr c R m Bufs.wb (fun s w => { s with wb := w }))
    {T : ℕ → Vec F S32x128 .bf16} {g : Vec F S512x4096 .bf16} {n n' : ℕ} {off : Fin 2 → ℕ} {inb} {v : Vec F S32x128 .bf16}
    {hx : (m.access (Rect.unit (s := S512x4096) off S32x128.size inb)).Stores Finset.univ} {hm}
    (hn : n + 1 = n') (hlt : n < 512) (ho : off = ![32 * (n / 32), 128 * (n % 32)]) (hv : v = T n) :
    Tr c E R (St Px Pa (Upto tileD winD T g n) Pr Py) (Prog.lift (.store m (Rect.unit (s := S512x4096) off S32x128.size inb) v Finset.univ hx hm))
      (fun u s => u = ⟨⟩ ∧ St Px Pa (Upto tileD winD T g n') Pr Py s) :=
  Tr.store h fun s hs w hw hw' => ⟨rfl, { hs with wb := uptoD hn hlt ho hv hs.wb hw hw' }⟩

/-- A store of the next tile of the rotated result. -/
theorem stR {m : Memref sig .tc .vmem S1152x512 .bf16} (h : Wr c R m Bufs.xr (fun s w => { s with xr := w }))
    {T : ℕ → Vec F S128x128 .bf16} {g : Vec F S1152x512 .bf16} {n n' : ℕ} {off : Fin 2 → ℕ} {inb} {v : Vec F S128x128 .bf16}
    {hx : (m.access (Rect.unit (s := S1152x512) off S128x128.size inb)).Stores Finset.univ} {hm}
    (hn : n + 1 = n') (hlt : n < 36) (ho : off = ![128 * (n % 18 / 2), 256 * (n / 18) + 128 * (n % 2)]) (hv : v = T n) :
    Tr c E R (St Px Pa Pb (Upto tileR winR T g n) Py) (Prog.lift (.store m (Rect.unit (s := S1152x512) off S128x128.size inb) v Finset.univ hx hm))
      (fun u s => u = ⟨⟩ ∧ St Px Pa Pb (Upto tileR winR T g n') Py s) :=
  Tr.store h fun s hs w hw hw' => ⟨rfl, { hs with xr := uptoR hn hlt ho hv hs.xr hw hw' }⟩

/-- A store of the next tile of the product. -/
theorem stY {m : Memref sig .tc .vmem S1152x1024 .bf16} (h : Wr c R m Bufs.y (fun s w => { s with y := w }))
    {T : ℕ → Vec F S384x512 .bf16} {g : Vec F S1152x1024 .bf16} {n n' : ℕ} {off : Fin 2 → ℕ} {inb} {v : Vec F S384x512 .bf16}
    {hx : (m.access (Rect.unit (s := S1152x1024) off S384x512.size inb)).Stores Finset.univ} {hm}
    (hn : n + 1 = n') (hlt : n < 6) (ho : off = ![384 * (n % 3), 512 * (n / 3)]) (hv : v = T n) :
    Tr c E R (St Px Pa Pb Pr (Upto tileY winY T g n)) (Prog.lift (.store m (Rect.unit (s := S1152x1024) off S384x512.size inb) v Finset.univ hx hm))
      (fun u s => u = ⟨⟩ ∧ St Px Pa Pb Pr (Upto tileY winY T g n') s) :=
  Tr.store h fun s hs w hw hw' => ⟨rfl, { hs with y := uptoY hn hlt ho hv hs.y hw hw' }⟩

/-- A store of the next tile of the rotated activations. -/
theorem stX {m : Memref sig .tc .vmem S16x1152x256 .bf16} (h : Wr c R m Bufs.xp (fun s w => { s with xp := w }))
    {T : ℕ → Vec F S128x256 .bf16} {g : Vec F S16x1152x256 .bf16} {n n' : ℕ} {off : Fin 3 → ℕ} {inb} {v : Vec F S128x256 .bf16}
    {hx : (m.access (Rect.unit (s := S16x1152x256) off S1x128x256.size inb)).Stores Finset.univ} {hm}
    (hn : n + 1 = n') (hlt : n < 144) (ho : off = ![n % 16, 128 * (n / 16), 0]) (hv : v = T n) :
    Tr c E R (St (Upto tileX winX T g n) Pa Pb Pr Py) (Prog.lift (.store m (Rect.unit (s := S16x1152x256) off S1x128x256.size inb) (shapeCast S1x128x256 v Shapes1.Facts₀.shapeCasts_S128x256_S1x128x256) Finset.univ hx hm))
      (fun u s => u = ⟨⟩ ∧ St (Upto tileX winX T g n') Pa Pb Pr Py s) :=
  Tr.store h fun s hs w hw hw' => ⟨rfl, { hs with xp := uptoX hn hlt ho hv hs.xp hw hw' }⟩

/-- A load of a place that is not filled yet. -/
theorem ldUA {m : Memref sig .tc .vmem S512x4096 .bf16} (h : Rd c R m Bufs.wa)
    {T : ℕ → Vec F S32x128 .bf16} {g : Vec F S512x4096 .bf16} {n : ℕ} {off : Fin 2 → ℕ} {inb} {hl}
    (hlt : n < 512) (ho : off = ![32 * (n / 32), 128 * (n % 32)]) :
    Tr c E R (St Px (Upto tileD winD T g n) Pb Pr Py) (Prog.lift (.load m (Rect.unit (s := S512x4096) off S32x128.size inb).toLoadRect hl))
      (fun v s => v = (fun x => g ((Rect.unit (s := S512x4096) off S32x128.size inb).emb x)) ∧ St Px (Upto tileD winD T g n) Pb Pr Py s) :=
  Tr.load h fun s hs x => (hs.wa _).trans (if_neg (by
    have := tileD_emb (inb := inb) hlt ho x
    exact fun hn => absurd (this ▸ hn : n < n) (lt_irrefl n)))

/-- A load of a place that is not filled yet. -/
theorem ldUB {m : Memref sig .tc .vmem S512x4096 .bf16} (h : Rd c R m Bufs.wb)
    {T : ℕ → Vec F S32x128 .bf16} {g : Vec F S512x4096 .bf16} {n : ℕ} {off : Fin 2 → ℕ} {inb} {hl}
    (hlt : n < 512) (ho : off = ![32 * (n / 32), 128 * (n % 32)]) :
    Tr c E R (St Px Pa (Upto tileD winD T g n) Pr Py) (Prog.lift (.load m (Rect.unit (s := S512x4096) off S32x128.size inb).toLoadRect hl))
      (fun v s => v = (fun x => g ((Rect.unit (s := S512x4096) off S32x128.size inb).emb x)) ∧ St Px Pa (Upto tileD winD T g n) Pr Py s) :=
  Tr.load h fun s hs x => (hs.wb _).trans (if_neg (by
    have := tileD_emb (inb := inb) hlt ho x
    exact fun hn => absurd (this ▸ hn : n < n) (lt_irrefl n)))

/-- A load of a place that is not filled yet. -/
theorem ldUR {m : Memref sig .tc .vmem S1152x512 .bf16} (h : Rd c R m Bufs.xr)
    {T : ℕ → Vec F S128x128 .bf16} {g : Vec F S1152x512 .bf16} {n : ℕ} {off : Fin 2 → ℕ} {inb} {hl}
    (hlt : n < 36) (ho : off = ![128 * (n % 18 / 2), 256 * (n / 18) + 128 * (n % 2)]) :
    Tr c E R (St Px Pa Pb (Upto tileR winR T g n) Py) (Prog.lift (.load m (Rect.unit (s := S1152x512) off S128x128.size inb).toLoadRect hl))
      (fun v s => v = (fun x => g ((Rect.unit (s := S1152x512) off S128x128.size inb).emb x)) ∧ St Px Pa Pb (Upto tileR winR T g n) Py s) :=
  Tr.load h fun s hs x => (hs.xr _).trans (if_neg (by
    have := tileR_emb (inb := inb) hlt ho x
    exact fun hn => absurd (this ▸ hn : n < n) (lt_irrefl n)))

/-- A load of a place that is not filled yet. -/
theorem ldUY {m : Memref sig .tc .vmem S1152x1024 .bf16} (h : Rd c R m Bufs.y)
    {T : ℕ → Vec F S384x512 .bf16} {g : Vec F S1152x1024 .bf16} {n : ℕ} {off : Fin 2 → ℕ} {inb} {hl}
    (hlt : n < 6) (ho : off = ![384 * (n % 3), 512 * (n / 3)]) :
    Tr c E R (St Px Pa Pb Pr (Upto tileY winY T g n)) (Prog.lift (.load m (Rect.unit (s := S1152x1024) off S384x512.size inb).toLoadRect hl))
      (fun v s => v = (fun x => g ((Rect.unit (s := S1152x1024) off S384x512.size inb).emb x)) ∧ St Px Pa Pb Pr (Upto tileY winY T g n) s) :=
  Tr.load h fun s hs x => (hs.y _).trans (if_neg (by
    have := tileY_emb (inb := inb) hlt ho x
    exact fun hn => absurd (this ▸ hn : n < n) (lt_irrefl n)))

/-- A load of a place that is not filled yet. -/
theorem ldUX {m : Memref sig .tc .vmem S16x1152x256 .bf16} (h : Rd c R m Bufs.xp)
    {T : ℕ → Vec F S128x256 .bf16} {g : Vec F S16x1152x256 .bf16} {n : ℕ} {off : Fin 3 → ℕ} {inb} {hl}
    (hlt : n < 144) (ho : off = ![n % 16, 128 * (n / 16), 0]) :
    Tr c E R (St (Upto tileX winX T g n) Pa Pb Pr Py) (Prog.lift (.load m (Rect.unit (s := S16x1152x256) off S1x128x256.size inb).toLoadRect hl))
      (fun v s => v = (fun x => g ((Rect.unit (s := S16x1152x256) off S1x128x256.size inb).emb x)) ∧ St (Upto tileX winX T g n) Pa Pb Pr Py s) :=
  Tr.load h fun s hs x => (hs.xp _).trans (if_neg (by
    have := tileX_emb (inb := inb) hlt ho x
    exact fun hn => absurd (this ▸ hn : n < n) (lt_irrefl n)))

/-- The decoded weights by their tiles. -/
def gD (T : ℕ → Vec F S32x128 .bf16) (a b : ℕ) : F .bf16 :=
  T (32 * (a / 32) + b / 128) (ix2 (n0 := 32) (n1 := 128) ⟨a % 32, Nat.mod_lt _ (by decide)⟩ ⟨b % 128, Nat.mod_lt _ (by decide)⟩)

/-- The rotated activations by their tiles. -/
def gX (T : ℕ → Vec F S128x256 .bf16) (a b d : ℕ) : F .bf16 :=
  T (16 * (b / 128) + a) (ix2 (n0 := 128) (n1 := 256) ⟨b % 128, Nat.mod_lt _ (by decide)⟩ ⟨d % 256, Nat.mod_lt _ (by decide)⟩)

/-- A decoded weight block whose tiles are all filled is filled. -/
theorem full_of_uptoD {T : ℕ → Vec F S32x128 .bf16} {g w : Vec F S512x4096 .bf16} (h : Upto tileD winD T g 512 w) :
    Full2 (gD T) w := fun i => by
  rw [h i, if_pos]
  · rfl
  · have h0 : (i 0).val < 512 := (i 0).isLt
    have h1 : (i 1).val < 4096 := (i 1).isLt
    unfold tileD; omega

/-- Rotated activations whose tiles are all filled are filled. -/
theorem full_of_uptoX {T : ℕ → Vec F S128x256 .bf16} {g w : Vec F S16x1152x256 .bf16} (h : Upto tileX winX T g 144 w) :
    Full3 (gX T) w := fun i => by
  have h0 : (i 0).val < 16 := (i 0).isLt
  have h1 : (i 1).val < 1152 := (i 1).isLt
  have h2 : (i 2).val < 256 := (i 2).isLt
  rw [h i, if_pos (by unfold tileX; omega)]
  unfold gX tileX winX
  congr 1
  refine congrArg (fun z => ix2 (n0 := 128) (n1 := 256) _ z) (Fin.ext ?_)
  exact (Nat.mod_eq_of_lt h2).symm

/-- Before the first store no tile is filled. -/
theorem upto_zero {I J V : Type} {tile : I → ℕ} {win : I → J} {T : ℕ → J → V} (g : I → V) : Upto tile win T g 0 g :=
  fun i => (if_neg (Nat.not_lt_zero _)).symm

/-- A filled element is what its tile holds. -/
theorem upto_eq {I J V : Type} {tile : I → ℕ} {win : I → J} {T : ℕ → J → V} {g w : I → V} {n : ℕ} (h : Upto tile win T g n w)
    (hn : ∀ i, tile i < n) (i : I) : w i = T (tile i) (win i) := by rw [h i, if_pos (hn i)]

/-- A load of a block of the second decoded weights, when all tiles are filled. -/
theorem ldBu {sz : Fin 2 → ℕ} {m : Memref sig .tc .vmem S512x4096 .bf16} {T : ℕ → Vec F S32x128 .bf16} {g : Vec F S512x4096 .bf16}
    (h : Rd c R m Bufs.wb) {a b : ℕ} {inb} {hl} :
    Tr c E R (St Px Pa (Upto tileD winD T g 512) Pr Py) (Prog.lift (.load m (Rect.unit (s := S512x4096) ![a, b] sz inb).toLoadRect hl))
      (fun v s => v = blk2 (gD T) sz a b ∧ St Px Pa (Upto tileD winD T g 512) Pr Py s) :=
  Tr.load h fun s hs k => by
    rw [full_of_uptoD hs.wb]
    show gD T (![a, b] 0 + 1 * k 0) (![a, b] 1 + 1 * k 1) = gD T (a + k 0) (b + k 1)
    simp only [one_mul]; rfl

/-- The first store of the next block's decoded weights over the previous block's. -/
theorem stA0 {m : Memref sig .tc .vmem S512x4096 .bf16} (h : Wr c R m Bufs.wa (fun s w => { s with wa := w }))
    {W : ℕ → ℕ → F .bf16} (T : ℕ → Vec F S32x128 .bf16) {off : Fin 2 → ℕ} {inb} {v : Vec F S32x128 .bf16}
    {hx : (m.access (Rect.unit (s := S512x4096) off S32x128.size inb)).Stores Finset.univ} {hm}
    (ho : off = ![0, 0]) (hv : v = T 0) :
    Tr c E R (St Px (Full2 W) Pb Pr Py) (Prog.lift (.store m (Rect.unit (s := S512x4096) off S32x128.size inb) v Finset.univ hx hm))
      (fun u s => u = ⟨⟩ ∧ St Px (Upto tileD winD T (fun i => W (i 0) (i 1)) 1) Pb Pr Py s) :=
  (stA (T := T) (g := fun i => W (i 0) (i 1)) (n := 0) (n' := 1) h rfl (by decide) ho hv).weaken fun s hs =>
    { hs with wa := fun i => (hs.wa i).trans (if_neg (Nat.not_lt_zero _)).symm }

/-- A load of a place of rows `128 t …` that is not filled yet. -/
theorem ldUXt {m : Memref sig .tc .vmem S16x1152x256 .bf16} (h : Rd c R m Bufs.xp)
    {T : ℕ → Vec F S128x256 .bf16} {g : Vec F S16x1152x256 .bf16} {t k : ℕ} {off : Fin 3 → ℕ} {inb} {hl}
    (hlt : t < 9) (hk : k < 16) (ho : off = ![k, 128 * t, 0]) :
    Tr c E R (St (Upto tileX winX T g (16 * t + k)) Pa Pb Pr Py) (Prog.lift (.load m (Rect.unit (s := S16x1152x256) off S1x128x256.size inb).toLoadRect hl))
      (fun v s => v = (fun x => g ((Rect.unit (s := S16x1152x256) off S1x128x256.size inb).emb x)) ∧ St (Upto tileX winX T g (16 * t + k)) Pa Pb Pr Py s) :=
  ldUX h (by omega) (ho.trans (by rw [show (16 * t + k) % 16 = k by omega, show (16 * t + k) / 16 = t by omega]))

/-- A store of block `k` of rows `128 t …` of the rotated activations. -/
theorem stXt {m : Memref sig .tc .vmem S16x1152x256 .bf16} (h : Wr c R m Bufs.xp (fun s w => { s with xp := w }))
    {T : ℕ → ℕ → Vec F S128x256 .bf16} {g : Vec F S16x1152x256 .bf16} {t k k' : ℕ} {off : Fin 3 → ℕ} {inb} {v : Vec F S128x256 .bf16}
    {hx : (m.access (Rect.unit (s := S16x1152x256) off S1x128x256.size inb)).Stores Finset.univ} {hm}
    (hn : k + 1 = k') (hlt : t < 9) (hk : k < 16) (ho : off = ![k, 128 * t, 0]) (hv : v = T t k) :
    Tr c E R (St (Upto tileX winX (fun n => T (n / 16) (n % 16)) g (16 * t + k)) Pa Pb Pr Py)
      (Prog.lift (.store m (Rect.unit (s := S16x1152x256) off S1x128x256.size inb) (shapeCast S1x128x256 v Shapes1.Facts₀.shapeCasts_S128x256_S1x128x256) Finset.univ hx hm))
      (fun u s => u = ⟨⟩ ∧ St (Upto tileX winX (fun n => T (n / 16) (n % 16)) g (16 * t + k')) Pa Pb Pr Py s) :=
  stX h (by omega) (by omega) (ho.trans (by rw [show (16 * t + k) % 16 = k by omega, show (16 * t + k) / 16 = t by omega]))
    (hv.trans (by show T t k = T ((16 * t + k) / 16) ((16 * t + k) % 16); rw [show (16 * t + k) % 16 = k by omega, show (16 * t + k) / 16 = t by omega]))

end Cert.KernelIdeal.Walk
-- ==== Proof.Funs.lean ====
/- What the kernel computes tile by tile: the decoded weights, the rotated activations, the products, and the rotated
   result, as functions of the arrays they are computed from. -/
module

public import proofs.«01_k».proof.Proof.Tiles

@[expose] public section

noncomputable section

namespace Cert.KernelIdeal.Walk

open Cert.KernelIdeal Cert.KernelIdeal.Gen
open Idealize.ShloMosaic Idealize.ShloMosaic.TcCoe
open Idealize.SL.Sem

variable {F : FTy → Type} [FloatOps F]

/-! ## The decoded weights -/

/-- Row `k` of the table of codebook pairs, over the 32 rows of a tile. -/
def lutT (lut : ℕ → ℕ → BitVec 32) (k : ℕ) : IVec S32x128 32 :=
  broadcastTo S32x128 (shapeCast S1x128 (shapeCast S1x128 (blk2 lut S1x128.size k 0 : IVec S1x128 32) shapeCasts_S1x128_S1x128)
    shapeCasts_S1x128_S1x128) broadcasts_S1x128_S32x128

/-- The scales of 32 rows, one column for each group. -/
def scT (sc : ℕ → ℕ → F .f32) (r : ℕ) : FVec F S32x4 .f32 :=
  transpose S32x4 [1, 0] (shapeCast S4x32 (blk2 sc S4x32.size 0 (32 * r) : FVec F S4x32 .f32) shapeCasts_S4x32_S4x32) transposes_S4x32_p1_0_S32x4

/-- One column of the scales over a tile. -/
def sclT (v : FVec F S32x1 .f32) : FVec F S32x128 .bf16 :=
  truncf .bf16 (broadcastTo S32x128 (shapeCast S32x1 v shapeCasts_S32x1_S32x1) broadcasts_S32x1_S32x128) bitsLt_bf16_f32

/-- The scales of group `g` over a tile of rows `32 r …`. -/
def gsT (sc : ℕ → ℕ → F .f32) (r : ℕ) : ℕ → FVec F S32x128 .bf16
  | 0 => sclT (extractStridedSlice S32x1 ![0, 0] (scT sc r) slices_S32x4_o0_0_S32x1)
  | 1 => sclT (extractStridedSlice S32x1 ![0, 1] (scT sc r) slices_S32x4_o0_1_S32x1)
  | 2 => sclT (extractStridedSlice S32x1 ![0, 2] (scT sc r) slices_S32x4_o0_2_S32x1)
  | _ => sclT (extractStridedSlice S32x1 ![0, 3] (scT sc r) slices_S32x4_o0_3_S32x1)

/-- The codes of a tile. -/
def codeT (codes : ℕ → ℕ → BitVec 8) (r c : ℕ) : IVec S32x128 32 :=
  extui 32 (blk2 codes S32x128.size (32 * r) (128 * c) : IVec S32x128 8) natLt_8_32

/-- A lane index as the gather takes it. -/
def idxT (v : IVec S32x128 32) : IVec S32x128 32 :=
  shapeCast S32x128 (shapeCast S32x128x1 v shapeCasts_S32x128_S32x128x1) shapeCasts_S32x128x1_S32x128

/-- The codebook pair of every code of a tile. -/
def pairT (lut : ℕ → ℕ → BitVec 32) (code : IVec S32x128 32) : IVec S32x128 32 :=
  select (cmpi .sge code (broadcast S32x128 128#32))
    (dynamicGather 1 (lutT lut 1) (idxT (andi code (broadcast S32x128 127#32))))
    (dynamicGather 1 (lutT lut 0) (idxT (andi code (broadcast S32x128 127#32))))

/-- One element of every pair: the low half, then the high half. -/
def halfT (v : IVec S32x128 32) : ℕ → FVec F S32x128 .bf16
  | 0 => bitcastToFloat .bf16 (trunci 16 v natLt_16_32)
  | _ => bitcastToFloat .bf16 (trunci 16 (shrsi v (broadcast S32x128 16#32)) natLt_16_32)

/-- Tile `n` of a decoded weight block: rows `32 (n / 32) …`, the pairs `128 (n % 32 / 2) …`, element `n % 2` of each. -/
def decT (lut : ℕ → ℕ → BitVec 32) (codes : ℕ → ℕ → BitVec 8) (sc : ℕ → ℕ → F .f32) (n : ℕ) : FVec F S32x128 .bf16 :=
  shapeCast S32x128 (mulf (halfT (pairT lut (codeT codes (n / 32) (n % 32 / 2))) (n % 2)) (gsT sc (n / 32) (n % 32 / 8))) shapeCasts_S32x128_S32x128

/-! ## The rotated result -/

/-- The lane of a result tile. -/
def laneT : IVec S128x128 32 := iota .tc S128x128 32 [1] iota_S128x128_d1_w32
/-- Whether the lane is even. -/
def evenT : IVec S128x128 1 := cmpi .eq (andi laneT (broadcast S128x128 1#32)) (broadcast S128x128 0#32)
/-- Half the lane. -/
def halfLaneT : IVec S128x128 32 := shrsi laneT (broadcast S128x128 1#32)

/-- 128 columns of the rotated activations. -/
def srcT (X : ℕ → ℕ → ℕ → F .bf16) (b r c : ℕ) : FVec F S128x128 .f32 :=
  extf .f32 (shapeCast S128x128 (blk3 X S1x128x128.size b (128 * r) c : FVec F S1x128x128 .bf16) shapeCasts_S1x128x128_S128x128) bitsLt_bf16_f32

/-- The lanes read for the first and for the second half of a block's columns. -/
def emitIdxT (k : ℕ) : IVec S128x128 32 :=
  shapeCast S128x128 (shapeCast S128x128x1 (addi halfLaneT (broadcast S128x128 (BitVec.ofNat 32 (64 * k)))) shapeCasts_S128x128_S128x128x1) shapeCasts_S128x128x1_S128x128

/-- Tile `n` of a rotated result block: block `b₀ + n / 18`, rows `128 (n % 18 / 2) …`, columns `128 (n % 2) …`. -/
def emitT (X : ℕ → ℕ → ℕ → F .bf16) (b₀ n : ℕ) : FVec F S128x128 .bf16 :=
  truncf .bf16 (select evenT (dynamicGather 1 (srcT X (b₀ + n / 18) (n % 18 / 2) 0) (emitIdxT (n % 2)))
    (dynamicGather 1 (srcT X (b₀ + n / 18) (n % 18 / 2) 128) (emitIdxT (n % 2)))) bitsLt_bf16_f32

/-! ## The products -/

/-- One block's product: 384 rows of the rotated activations by a decoded weight block. -/
def mmB (X : ℕ → ℕ → ℕ → F .bf16) (W : ℕ → ℕ → F .bf16) (r b : ℕ) : FVec F S384x512 .f32 :=
  matmul dot_S384x256_S512x256_S384x512_1_1_0_0_n_n none
    (shapeCast S384x256 (blk3 X S1x384x256.size b (384 * r) 0 : FVec F S1x384x256 .bf16) shapeCasts_S1x384x256_S384x256)
    (blk2 W S512x256.size 0 (256 * b) : FVec F S512x256 .bf16) (constant S384x512 .f32 0x00000000#32)

/-- The first `b + 1` blocks' products added. -/
def mmAcc (X : ℕ → ℕ → ℕ → F .bf16) (W : ℕ → ℕ → F .bf16) (r : ℕ) : ℕ → FVec F S384x512 .f32
  | 0 => mmB X W r 0
  | b + 1 => addf (mmAcc X W r b) (mmB X W r (b + 1))

/-- Tile `n` of the products: rows `384 (n % 3) …`, by the first weight block and then by the second. -/
def mmT (X : ℕ → ℕ → ℕ → F .bf16) (W W' : ℕ → ℕ → F .bf16) (n : ℕ) : FVec F S384x512 .bf16 :=
  truncf .bf16 (mmAcc X (match n / 3 with | 0 => W | _ => W') (n % 3) 15) bitsLt_bf16_f32

/-! ## The rotated activations -/

/-- The reciprocal root mean square of 128 rows. -/
def invT (x : ℕ → ℕ → F .bf16) (t : ℕ) : FVec F S128x1 .f32 :=
  let v : FVec F S128x4096 .f32 := extf .f32 (shapeCast S128x4096 (blk2 x S128x4096.size (128 * t) 0 : FVec F S128x4096 .bf16) shapeCasts_S128x4096_S128x4096) bitsLt_bf16_f32
  rsqrt (addf (divf (shapeCast S128x1 (multiReduction .add [1] S128 (mulf v v) 0x00000000#32 reduces_S128x4096_S128 (.inl rfl) rfl) shapeCasts_S128_S128x1)
    (broadcast S128x1 (Scalar.ofBits .f32 0x45800000#32))) (broadcast S128x1 (Scalar.ofBits .f32 0x358637BD#32)))

/-- 128 rows of block `b` of the normalized and signed activations. -/
def xsT (x : ℕ → ℕ → F .bf16) (gain : ℕ → ℕ → F .f32) (sign : ℕ → ℕ → BitVec 8) (t b : ℕ) : FVec F S128x256 .bf16 :=
  mulf (truncf .bf16 (mulf (mulf (extf .f32 (shapeCast S128x256 (blk2 x S128x256.size (128 * t) (256 * b) : FVec F S128x256 .bf16) shapeCasts_S128x256_S128x256) bitsLt_bf16_f32)
      (broadcastTo S128x256 (invT x t) broadcasts_S128x1_S128x256))
      (broadcastTo S128x256 (shapeCast S1x256 (blk2 gain S1x256.size 0 (256 * b) : FVec F S1x256 .f32) shapeCasts_S1x256_S1x256) broadcasts_S1x256_S128x256)) bitsLt_bf16_f32)
    (broadcastTo S128x256 (sitofp .bf16 (shapeCast S1x256 (blk2 sign S1x256.size 0 (256 * b) : IVec S1x256 8) shapeCasts_S1x256_S1x256)) broadcasts_S1x256_S128x256)

/-- Their product with the Hadamard matrix. -/
def hxT (x : ℕ → ℕ → F .bf16) (gain : ℕ → ℕ → F .f32) (sign : ℕ → ℕ → BitVec 8) (had : ℕ → ℕ → F .bf16) (t b : ℕ) : FVec F S128x256 .f32 :=
  matmul dot_S128x256_S256x256_S128x256_1_0_0_1_n_n none (xsT x gain sign t b) (blk2 had S256x256.size 0 0 : FVec F S256x256 .bf16) (constant S128x256 .f32 0x00000000#32)

/-- The four combinations of a group's four blocks. -/
def combT (a b c d : FVec F S128x256 .f32) : ℕ → FVec F S128x256 .f32
  | 0 => addf (addf a b) (addf c d)
  | 1 => addf (subf a b) (subf c d)
  | 2 => subf (addf a b) (addf c d)
  | _ => subf (subf a b) (subf c d)

/-- Rows `128 t …` of block `b` of the rotated activations. -/
def xpB (x : ℕ → ℕ → F .bf16) (gain : ℕ → ℕ → F .f32) (sign : ℕ → ℕ → BitVec 8) (had : ℕ → ℕ → F .bf16) (t b : ℕ) : FVec F S128x256 .bf16 :=
  truncf .bf16 (mulf (combT (hxT x gain sign had t (4 * (b / 4))) (hxT x gain sign had t (4 * (b / 4) + 1))
    (hxT x gain sign had t (4 * (b / 4) + 2)) (hxT x gain sign had t (4 * (b / 4) + 3)) (b % 4))
    (broadcast S128x256 (Scalar.ofBits .f32 0x3D000000#32))) bitsLt_bf16_f32

/-- Tile `n` of the rotated activations: rows `128 (n / 16) …` of block `n % 16`. -/
def xpT (x : ℕ → ℕ → F .bf16) (gain : ℕ → ℕ → F .f32) (sign : ℕ → ℕ → BitVec 8) (had : ℕ → ℕ → F .bf16) (n : ℕ) : FVec F S128x256 .bf16 :=
  xpB x gain sign had (n / 16) (n % 16)

end Cert.KernelIdeal.Walk
-- ==== Proof.Init1.lean ====
/- The first step: rotating the activations, and the start of decoding the first weight block. -/
module

public import proofs.«01_k».proof.Proof.Funs

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- The rotation of the activations, and the start of decoding the first weight block. -/
theorem t11 (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) (k0_h1 : k0_cond1 i = 1#1) :
    Tr c E R (St (Upto tileX winX (fun n => xpB x0 x1 x2 x3 (n / 16) (n % 16)) gx 0) (Upto tileD winD (decT x4 x5 x8) ga 0) Pb Pr Py)
      (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1)
      (fun a s => a = ⟨lutT x4 0, lutT x4 1, scT x8 0, mulf (halfT (pairT x4 (codeT x5 0 0)) 1) (gsT x8 0 0)⟩ ∧ St (Full3 (gX (fun n => xpB x0 x1 x2 x3 (n / 16) (n % 16)))) (Upto tileD winD (decT x4 x5 x8) ga 1) Pb Pr Py s) := by
  unfold k0_part11
  refine Tr.step (v := PUnit.unit) (P' := St (Full3 (gX (fun n => xpB x0 x1 x2 x3 (n / 16) (n % 16)))) (Upto tileD winD (decT x4 x5 x8) ga 0) Pb Pr Py) ?_ ?_
  · refine (Tr.for k0_t1_loop _ (fun n => St (Upto tileX winX (fun n => xpB x0 x1 x2 x3 (n / 16) (n % 16)) gx (16 * n)) (Upto tileD winD (decT x4 x5 x8) ga 0) Pb Pr Py) fun t => ?_).conseq
      (fun _ h => h) (fun _ _ h => ⟨h.1, { h.2 with xp := full_of_uptoX h.2.xp }⟩)
    refine Tr.conseq (P := St (Upto tileX winX (fun n => xpB x0 x1 x2 x3 (n / 16) (n % 16)) gx (16 * t.val + 0)) (Upto tileD winD (decT x4 x5 x8) ga 0) Pb Pr Py)
      (Q := fun a s => a = ⟨⟩ ∧ St (Upto tileX winX (fun n => xpB x0 x1 x2 x3 (n / 16) (n % 16)) gx (16 * t.val + 16)) (Upto tileD winD (decT x4 x5 x8) ga 0) Pb Pr Py s) ?_ (fun _ h => h) (fun _ _ h => h.2)
    repeat' first
      | with_reducible exact Tr.ret'
      | with_reducible exact Tr.pure'
      | (with_reducible apply stXt h.w14
         case hn => simp only [Nat.reduceAdd]; rfl
         case hlt => exact t.isLt
         case hk => decide
         case ho => first | exact k0_off6_eq t | exact k0_off7_eq t | exact k0_off8_eq t | exact k0_off9_eq t | exact k0_off14_eq t | exact k0_off15_eq t | exact k0_off16_eq t | exact k0_off17_eq t | exact k0_off22_eq t | exact k0_off23_eq t | exact k0_off24_eq t | exact k0_off25_eq t | exact k0_off30_eq t | exact k0_off31_eq t | exact k0_off32_eq t | exact k0_off33_eq t
         case hv => rfl)
      | (apply ldUXt h.r14
         case hlt => exact t.isLt
         case hk => decide
         case ho => first | exact k0_off6_eq t | exact k0_off7_eq t | exact k0_off8_eq t | exact k0_off9_eq t | exact k0_off14_eq t | exact k0_off15_eq t | exact k0_off16_eq t | exact k0_off17_eq t | exact k0_off22_eq t | exact k0_off23_eq t | exact k0_off24_eq t | exact k0_off25_eq t | exact k0_off30_eq t | exact k0_off31_eq t | exact k0_off32_eq t | exact k0_off33_eq t)
      | (apply ldCd h.r1
         first | exact k0_off1_eq t | exact k0_off2_eq t | exact k0_off3_eq t | exact k0_off4_eq t | exact k0_off5_eq t | exact k0_off10_eq t | exact k0_off11_eq t | exact k0_off12_eq t | exact k0_off13_eq t | exact k0_off18_eq t | exact k0_off19_eq t | exact k0_off20_eq t | exact k0_off21_eq t | exact k0_off26_eq t | exact k0_off27_eq t | exact k0_off28_eq t | exact k0_off29_eq t)
      | exact ldC h.r2
      | exact ldC h.r3
      | exact ldC h.r4
      | with_reducible apply Tr.step
      | apply Tr.step
      | exact Tr.ret fun s hs => ⟨rfl, hs⟩
  · repeat' first
      | with_reducible exact Tr.ret'
      | with_reducible exact Tr.pure'
      | (with_reducible apply stA h.w15
         case hn => simp only [Nat.reduceAdd]; rfl
         case hlt => decide
         case ho => exact rfl
         case hv => rfl)
      | (apply ldUA h.r15
         case hlt => decide
         case ho => rfl)
      | exact ldC h.r5
      | exact ldC h.r6
      | exact ldC h.r9
      | with_reducible apply Tr.step
      | apply Tr.step
      | exact Tr.ret fun s hs => ⟨rfl, hs⟩

set_option maxHeartbeats 4000000 in
/-- The rotation of the activations, and decoding the first weight block. -/
theorem t191 (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) (k0_h1 : k0_cond1 i = 1#1) :
    Tr c E R (St (Upto tileX winX (fun n => xpB x0 x1 x2 x3 (n / 16) (n % 16)) gx 0) (Upto tileD winD (decT x4 x5 x8) ga 0) Pb Pr Py)
      (k0_part191 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1)
      (fun a s => a = ⟨lutT x4 0, lutT x4 1, scT x8 5, gsT x8 5 1, pairT x4 (codeT x5 5 4), halfT (pairT x4 (codeT x5 5 4)) 0, 16#32⟩ ∧ St (Full3 (gX (fun n => xpB x0 x1 x2 x3 (n / 16) (n % 16)))) (Upto tileD winD (decT x4 x5 x8) ga 168) Pb Pr Py s) := by
  unfold k0_part191
  refine Tr.step (t11 h i harg1 harg2 harg3 harg4 harg5 harg6 harg7 harg8 harg9 harg10 harg11 harg12 harg13 harg14 harg15 harg16 k0_h1) ?_
  repeat' first
    | with_reducible exact Tr.ret'
    | with_reducible exact Tr.pure'
    | (with_reducible apply stA h.w15
       case hn => simp only [Nat.reduceAdd]; rfl
       case hlt => decide
       case ho => exact rfl
       case hv => rfl)
    | (apply ldUA h.r15
       case hlt => decide
       case ho => rfl)
    | exact ldC h.r6
    | exact ldC h.r9
    | with_reducible apply Tr.step
    | apply Tr.step
    | exact Tr.ret fun s hs => ⟨rfl, hs⟩

end Cert.KernelIdeal.Walk
-- ==== Proof.Init2.lean ====
/- The first step: decoding the first weight block, continued. -/
module

public import proofs.«01_k».proof.Proof.Funs

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- Decoding the first weight block, continued. -/
theorem t192 (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) :
    Tr c E R (St Px (Upto tileD winD (decT x4 x5 x8) ga 168) Pb Pr Py)
      (k0_part192 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (lutT x4 0) (lutT x4 1) (scT x8 5) (gsT x8 5 1) (pairT x4 (codeT x5 5 4)) (halfT (pairT x4 (codeT x5 5 4)) 0) 16#32)
      (fun a s => a = ⟨scT x8 10, gsT x8 10 2, halfT (pairT x4 (codeT x5 10 9)) 1, mulf (halfT (pairT x4 (codeT x5 10 9)) 0) (gsT x8 10 2)⟩ ∧ St Px (Upto tileD winD (decT x4 x5 x8) ga 338) Pb Pr Py s) := by
  unfold k0_part192
  repeat' first
    | with_reducible exact Tr.ret'
    | with_reducible exact Tr.pure'
    | (with_reducible apply stA h.w15
       case hn => simp only [Nat.reduceAdd]; rfl
       case hlt => decide
       case ho => exact rfl
       case hv => rfl)
    | (apply ldUA h.r15
       case hlt => decide
       case ho => rfl)
    | exact ldC h.r6
    | exact ldC h.r9
    | with_reducible apply Tr.step
    | apply Tr.step
    | exact Tr.ret fun s hs => ⟨rfl, hs⟩

end Cert.KernelIdeal.Walk
-- ==== Proof.Init3.lean ====
/- The first step: decoding the first weight block, further on. -/
module

public import proofs.«01_k».proof.Proof.Funs

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- Decoding the first weight block, continued. -/
theorem t193 (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) :
    Tr c E R (St Px (Upto tileD winD (decT x4 x5 x8) ga 338) Pb Pr Py)
      (k0_part193 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (lutT x4 0) (lutT x4 1) (scT x8 10) (gsT x8 10 2) (halfT (pairT x4 (codeT x5 10 9)) 1) (mulf (halfT (pairT x4 (codeT x5 10 9)) 0) (gsT x8 10 2)))
      (fun a s => a = ⟨scT x8 15, gsT x8 15 3, halfT (pairT x4 (codeT x5 15 14)) 1, decT x4 x5 x8 508⟩ ∧ St Px (Upto tileD winD (decT x4 x5 x8) ga 508) Pb Pr Py s) := by
  unfold k0_part193
  repeat' first
    | with_reducible exact Tr.ret'
    | with_reducible exact Tr.pure'
    | (with_reducible apply stA h.w15
       case hn => simp only [Nat.reduceAdd]; rfl
       case hlt => decide
       case ho => exact rfl
       case hv => rfl)
    | (apply ldUA h.r15
       case hlt => decide
       case ho => rfl)
    | exact ldC h.r6
    | exact ldC h.r9
    | with_reducible apply Tr.step
    | apply Tr.step
    | exact Tr.ret fun s hs => ⟨rfl, hs⟩

end Cert.KernelIdeal.Walk
-- ==== Proof.Init4.lean ====
/- The first part of a step: whole at the first step, the start of the rotated result at every other one. -/
module

public import proofs.«01_k».proof.Proof.Init1
public import proofs.«01_k».proof.Proof.Init2
public import proofs.«01_k».proof.Proof.Init3

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- The first step: the activations are rotated and the first weight block is decoded, before the first tile of the rotated result. -/
theorem t194_first (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) (k0_h1 : k0_cond1 i = 1#1) :
    Tr c E R (St (Upto tileX winX (fun n => xpB x0 x1 x2 x3 (n / 16) (n % 16)) gx 0) (Upto tileD winD (decT x4 x5 x8) ga 0) Pb (Upto tileR winR (emitT (gX (fun n => xpB x0 x1 x2 x3 (n / 16) (n % 16))) (2 * min (i 0).val 7)) gr 0) Py)
      (k0_part194 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun a s => a = ⟨Scalar.muli (Scalar.minsi (BitVec.ofNat 32 (i 0).val) 7#32) 2#32, evenT, halfLaneT, srcT (gX (fun n => xpB x0 x1 x2 x3 (n / 16) (n % 16))) (2 * min (i 0).val 7) 0 128, dynamicGather 1 (srcT (gX (fun n => xpB x0 x1 x2 x3 (n / 16) (n % 16))) (2 * min (i 0).val 7) 0 0) (emitIdxT 1), emitIdxT 1⟩ ∧ St (Full3 (gX (fun n => xpB x0 x1 x2 x3 (n / 16) (n % 16)))) (Full2 (gD (decT x4 x5 x8))) Pb (Upto tileR winR (emitT (gX (fun n => xpB x0 x1 x2 x3 (n / 16) (n % 16))) (2 * min (i 0).val 7)) gr 1) Py s) := by
  unfold k0_part194
  refine Tr.conseq (Q := fun a s => a = ⟨Scalar.muli (Scalar.minsi (BitVec.ofNat 32 (i 0).val) 7#32) 2#32, evenT, halfLaneT, srcT (gX (fun n => xpB x0 x1 x2 x3 (n / 16) (n % 16))) (2 * min (i 0).val 7) 0 128, dynamicGather 1 (srcT (gX (fun n => xpB x0 x1 x2 x3 (n / 16) (n % 16))) (2 * min (i 0).val 7) 0 0) (emitIdxT 1), emitIdxT 1⟩ ∧ St (Full3 (gX (fun n => xpB x0 x1 x2 x3 (n / 16) (n % 16)))) (Upto tileD winD (decT x4 x5 x8) ga 512) Pb (Upto tileR winR (emitT (gX (fun n => xpB x0 x1 x2 x3 (n / 16) (n % 16))) (2 * min (i 0).val 7)) gr 1) Py s) ?_
    (fun _ h => h) (fun _ _ h => ⟨h.1, { h.2 with wa := full_of_uptoD h.2.wa }⟩)
  refine Tr.pos k0_h1 ?_
  refine Tr.step (t191 h i harg1 harg2 harg3 harg4 harg5 harg6 harg7 harg8 harg9 harg10 harg11 harg12 harg13 harg14 harg15 harg16 k0_h1) ?_
  refine Tr.step (t192 h i harg1 harg2 harg3 harg4 harg5 harg6 harg7 harg8 harg9 harg10 harg11 harg12 harg13 harg14 harg15 harg16) ?_
  refine Tr.step (t193 h i harg1 harg2 harg3 harg4 harg5 harg6 harg7 harg8 harg9 harg10 harg11 harg12 harg13 harg14 harg15 harg16) ?_
  repeat' first
    | with_reducible exact Tr.ret'
    | with_reducible exact Tr.pure'
    | (with_reducible apply stA h.w15
       case hn => simp only [Nat.reduceAdd]; rfl
       case hlt => decide
       case ho => exact rfl
       case hv => rfl)
    | (with_reducible apply stR h.w13
       case hn => simp only [Nat.reduceAdd]; rfl
       case hlt => decide
       case ho => exact rfl
       case hv => rfl)
    | (apply ldUA h.r15
       case hlt => decide
       case ho => rfl)
    | (apply ldUR h.r13
       case hlt => decide
       case ho => rfl)
    | exact ldC h.r6
    | exact ldC h.r9
    | (apply ldX h.r14
       first | exact k0_off34_eq i 0 | exact k0_off34_eq i 1 | exact k0_off35_eq i 0 | exact k0_off35_eq i 1 | exact k0_off36_eq i 0 | exact k0_off36_eq i 1 | exact k0_off37_eq i 0 | exact k0_off37_eq i 1 | exact k0_off38_eq i 0 | exact k0_off38_eq i 1 | exact k0_off39_eq i 0 | exact k0_off39_eq i 1 | exact k0_off40_eq i 0 | exact k0_off40_eq i 1 | exact k0_off41_eq i 0 | exact k0_off41_eq i 1 | exact k0_off42_eq i 0 | exact k0_off42_eq i 1 | exact k0_off43_eq i 0 | exact k0_off43_eq i 1 | exact k0_off44_eq i 0 | exact k0_off44_eq i 1 | exact k0_off45_eq i 0 | exact k0_off45_eq i 1 | exact k0_off46_eq i 0 | exact k0_off46_eq i 1 | exact k0_off47_eq i 0 | exact k0_off47_eq i 1 | exact k0_off48_eq i 0 | exact k0_off48_eq i 1 | exact k0_off49_eq i 0 | exact k0_off49_eq i 1 | exact k0_off50_eq i 0 | exact k0_off50_eq i 1 | exact k0_off51_eq i 0 | exact k0_off51_eq i 1)
    | with_reducible apply Tr.step
    | apply Tr.step
    | exact Tr.ret fun s hs => ⟨rfl, hs⟩

set_option maxHeartbeats 4000000 in
/-- A later step, up to the first tile of the rotated result. -/
theorem t194_later (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) (k0_h1 : ¬ k0_cond1 i = 1#1) :
    Tr c E R (St (Full3 X) (Full2 W) Pb (Upto tileR winR (emitT X (2 * min (i 0).val 7)) gr 0) Py)
      (k0_part194 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun a s => a = ⟨Scalar.muli (Scalar.minsi (BitVec.ofNat 32 (i 0).val) 7#32) 2#32, evenT, halfLaneT, srcT X (2 * min (i 0).val 7) 0 128, dynamicGather 1 (srcT X (2 * min (i 0).val 7) 0 0) (emitIdxT 1), emitIdxT 1⟩ ∧ St (Full3 X) (Full2 W) Pb (Upto tileR winR (emitT X (2 * min (i 0).val 7)) gr 1) Py s) := by
  unfold k0_part194
  refine Tr.neg k0_h1 ?_
  repeat' first
    | with_reducible exact Tr.ret'
    | with_reducible exact Tr.pure'
    | (with_reducible apply stR h.w13
       case hn => simp only [Nat.reduceAdd]; rfl
       case hlt => decide
       case ho => exact rfl
       case hv => rfl)
    | (apply ldUR h.r13
       case hlt => decide
       case ho => rfl)
    | (apply ldX h.r14
       first | exact k0_off34_eq i 0 | exact k0_off34_eq i 1 | exact k0_off35_eq i 0 | exact k0_off35_eq i 1 | exact k0_off36_eq i 0 | exact k0_off36_eq i 1 | exact k0_off37_eq i 0 | exact k0_off37_eq i 1 | exact k0_off38_eq i 0 | exact k0_off38_eq i 1 | exact k0_off39_eq i 0 | exact k0_off39_eq i 1 | exact k0_off40_eq i 0 | exact k0_off40_eq i 1 | exact k0_off41_eq i 0 | exact k0_off41_eq i 1 | exact k0_off42_eq i 0 | exact k0_off42_eq i 1 | exact k0_off43_eq i 0 | exact k0_off43_eq i 1 | exact k0_off44_eq i 0 | exact k0_off44_eq i 1 | exact k0_off45_eq i 0 | exact k0_off45_eq i 1 | exact k0_off46_eq i 0 | exact k0_off46_eq i 1 | exact k0_off47_eq i 0 | exact k0_off47_eq i 1 | exact k0_off48_eq i 0 | exact k0_off48_eq i 1 | exact k0_off49_eq i 0 | exact k0_off49_eq i 1 | exact k0_off50_eq i 0 | exact k0_off50_eq i 1 | exact k0_off51_eq i 0 | exact k0_off51_eq i 1)
    | with_reducible apply Tr.step
    | apply Tr.step
    | exact Tr.ret fun s hs => ⟨rfl, hs⟩

end Cert.KernelIdeal.Walk
-- ==== Proof.Step1.lean ====
/- A step: the rotated result, and the start of decoding the second weight block. -/
module

public import proofs.«01_k».proof.Proof.Funs

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- The rotated result, and the start of decoding the second weight block. -/
theorem t587 (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) {P₀ : Bufs F → Prop}
    (h₀ : Tr c E R P₀ (k0_part194 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) (fun a s => a = ⟨Scalar.muli (Scalar.minsi (BitVec.ofNat 32 (i 0).val) 7#32) 2#32, evenT, halfLaneT, srcT X (2 * min (i 0).val 7) 0 128, dynamicGather 1 (srcT X (2 * min (i 0).val 7) 0 0) (emitIdxT 1), emitIdxT 1⟩ ∧ St (Full3 X) (Full2 W) (Upto tileD winD (decT x4 x6 x9) gb 0) (Upto tileR winR (emitT X (2 * min (i 0).val 7)) gr 1) Py s)) :
    Tr c E R (P₀)
      (k0_part587 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun a s => a = ⟨lutT x4 0, lutT x4 1, scT x9 4, gsT x9 4 0, halfT (pairT x4 (codeT x6 4 0)) 0, shrsi (pairT x4 (codeT x6 4 0)) (broadcast S32x128 16#32)⟩ ∧ St (Full3 X) (Full2 W) (Upto tileD winD (decT x4 x6 x9) gb 128) (Upto tileR winR (emitT X (2 * min (i 0).val 7)) gr 36) Py s) := by
  unfold k0_part587
  refine Tr.step h₀ ?_
  repeat' first
    | with_reducible exact Tr.ret'
    | with_reducible exact Tr.pure'
    | (with_reducible apply stR h.w13
       case hn => simp only [Nat.reduceAdd]; rfl
       case hlt => decide
       case ho => exact rfl
       case hv => rfl)
    | (with_reducible apply stB h.w16
       case hn => simp only [Nat.reduceAdd]; rfl
       case hlt => decide
       case ho => exact rfl
       case hv => rfl)
    | (apply ldUR h.r13
       case hlt => decide
       case ho => rfl)
    | (apply ldUB h.r16
       case hlt => decide
       case ho => rfl)
    | exact ldC h.r5
    | exact ldC h.r7
    | exact ldC h.r10
    | (apply ldX h.r14
       first | exact k0_off34_eq i 0 | exact k0_off34_eq i 1 | exact k0_off35_eq i 0 | exact k0_off35_eq i 1 | exact k0_off36_eq i 0 | exact k0_off36_eq i 1 | exact k0_off37_eq i 0 | exact k0_off37_eq i 1 | exact k0_off38_eq i 0 | exact k0_off38_eq i 1 | exact k0_off39_eq i 0 | exact k0_off39_eq i 1 | exact k0_off40_eq i 0 | exact k0_off40_eq i 1 | exact k0_off41_eq i 0 | exact k0_off41_eq i 1 | exact k0_off42_eq i 0 | exact k0_off42_eq i 1 | exact k0_off43_eq i 0 | exact k0_off43_eq i 1 | exact k0_off44_eq i 0 | exact k0_off44_eq i 1 | exact k0_off45_eq i 0 | exact k0_off45_eq i 1 | exact k0_off46_eq i 0 | exact k0_off46_eq i 1 | exact k0_off47_eq i 0 | exact k0_off47_eq i 1 | exact k0_off48_eq i 0 | exact k0_off48_eq i 1 | exact k0_off49_eq i 0 | exact k0_off49_eq i 1 | exact k0_off50_eq i 0 | exact k0_off50_eq i 1 | exact k0_off51_eq i 0 | exact k0_off51_eq i 1)
    | with_reducible apply Tr.step
    | apply Tr.step
    | exact Tr.ret fun s hs => ⟨rfl, hs⟩

end Cert.KernelIdeal.Walk
-- ==== Proof.Step2.lean ====
/- A step: decoding the second weight block, continued. -/
module

public import proofs.«01_k».proof.Proof.Funs

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- Decoding the second weight block, continued. -/
theorem t588 (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) :
    Tr c E R (St Px Pa (Upto tileD winD (decT x4 x6 x9) gb 128) Pr Py)
      (k0_part588 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (lutT x4 0) (lutT x4 1) (scT x9 4) (gsT x9 4 0) (halfT (pairT x4 (codeT x6 4 0)) 0) (shrsi (pairT x4 (codeT x6 4 0)) (broadcast S32x128 16#32)))
      (fun a s => a = ⟨scT x9 9, gsT x9 9 1, halfT (pairT x4 (codeT x6 9 5)) 1, mulf (halfT (pairT x4 (codeT x6 9 5)) 0) (gsT x9 9 1)⟩ ∧ St Px Pa (Upto tileD winD (decT x4 x6 x9) gb 298) Pr Py s) := by
  unfold k0_part588
  repeat' first
    | with_reducible exact Tr.ret'
    | with_reducible exact Tr.pure'
    | (with_reducible apply stB h.w16
       case hn => simp only [Nat.reduceAdd]; rfl
       case hlt => decide
       case ho => exact rfl
       case hv => rfl)
    | (apply ldUB h.r16
       case hlt => decide
       case ho => rfl)
    | exact ldC h.r7
    | exact ldC h.r10
    | with_reducible apply Tr.step
    | apply Tr.step
    | exact Tr.ret fun s hs => ⟨rfl, hs⟩

end Cert.KernelIdeal.Walk
-- ==== Proof.Step3.lean ====
/- A step: decoding the second weight block, further on. -/
module

public import proofs.«01_k».proof.Proof.Funs

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- Decoding the second weight block, continued. -/
theorem t589 (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) :
    Tr c E R (St Px Pa (Upto tileD winD (decT x4 x6 x9) gb 298) Pr Py)
      (k0_part589 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (lutT x4 0) (lutT x4 1) (scT x9 9) (gsT x9 9 1) (halfT (pairT x4 (codeT x6 9 5)) 1) (mulf (halfT (pairT x4 (codeT x6 9 5)) 0) (gsT x9 9 1)))
      (fun a s => a = ⟨scT x9 14, mulf (halfT (pairT x4 (codeT x6 14 10)) 1) (gsT x9 14 2)⟩ ∧ St Px Pa (Upto tileD winD (decT x4 x6 x9) gb 469) Pr Py s) := by
  unfold k0_part589
  repeat' first
    | with_reducible exact Tr.ret'
    | with_reducible exact Tr.pure'
    | (with_reducible apply stB h.w16
       case hn => simp only [Nat.reduceAdd]; rfl
       case hlt => decide
       case ho => exact rfl
       case hv => rfl)
    | (apply ldUB h.r16
       case hlt => decide
       case ho => rfl)
    | exact ldC h.r7
    | exact ldC h.r10
    | with_reducible apply Tr.step
    | apply Tr.step
    | exact Tr.ret fun s hs => ⟨rfl, hs⟩

end Cert.KernelIdeal.Walk
-- ==== Proof.Step4.lean ====
/- A step: the end of decoding the second weight block, the product by the first, and the start of decoding the next first one. -/
module

public import proofs.«01_k».proof.Proof.Funs

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- The end of decoding the second weight block, the product by the first, and the start of decoding the first weight block of the next step. -/
theorem t590 (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) :
    Tr c E R (St (Full3 X) (Full2 W) (Upto tileD winD (decT x4 x6 x9) gb 469) Pr (Upto tileY winY (mmT X W (gD (decT x4 x6 x9))) gy 0))
      (k0_part590 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (lutT x4 0) (lutT x4 1) (scT x9 14) (mulf (halfT (pairT x4 (codeT x6 14 10)) 1) (gsT x9 14 2)))
      (fun a s => a = ⟨lutT x4 0, lutT x4 1, scT x10 3, gsT x10 3 0, halfT (pairT x4 (codeT x7 3 2)) 1⟩ ∧ St (Full3 X) (Upto tileD winD (decT x4 x7 x10) (fun i => W (i 0) (i 1)) 101) (Upto tileD winD (decT x4 x6 x9) gb 512) Pr (Upto tileY winY (mmT X W (gD (decT x4 x6 x9))) gy 3) s) := by
  unfold k0_part590
  repeat' first
    | with_reducible exact Tr.ret'
    | with_reducible exact Tr.pure'
    | (with_reducible apply stB h.w16
       case hn => simp only [Nat.reduceAdd]; rfl
       case hlt => decide
       case ho => exact rfl
       case hv => rfl)
    | (with_reducible apply stA h.w15
       case hn => simp only [Nat.reduceAdd]; rfl
       case hlt => decide
       case ho => exact rfl
       case hv => rfl)
    | (apply stA0 h.w15 (decT x4 x7 x10)
       case ho => rfl
       case hv => rfl)
    | (with_reducible apply stY h.w12
       case hn => simp only [Nat.reduceAdd]; rfl
       case hlt => decide
       case ho => exact rfl
       case hv => rfl)
    | (apply ldUB h.r16
       case hlt => decide
       case ho => rfl)
    | (apply ldUA h.r15
       case hlt => decide
       case ho => rfl)
    | (apply ldUY h.r12
       case hlt => decide
       case ho => rfl)
    | exact ldC h.r7
    | exact ldC h.r8
    | exact ldC h.r10
    | exact ldC h.r11
    | exact ldC h.r5
    | exact ldX h.r14 rfl
    | exact ldA h.r15
    | exact ldBu h.r16
    | with_reducible apply Tr.step
    | apply Tr.step
    | exact Tr.ret fun s hs => ⟨rfl, hs⟩

end Cert.KernelIdeal.Walk
-- ==== Proof.Step5.lean ====
/- A step: decoding the next first weight block, continued. -/
module

public import proofs.«01_k».proof.Proof.Funs

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- Decoding the next first weight block, continued. -/
theorem t591 (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) :
    Tr c E R (St Px (Upto tileD winD (decT x4 x7 x10) ga 101) Pb Pr Py)
      (k0_part591 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (lutT x4 0) (lutT x4 1) (scT x10 3) (gsT x10 3 0) (halfT (pairT x4 (codeT x7 3 2)) 1))
      (fun a s => a = ⟨scT x10 8, mulf (halfT (pairT x4 (codeT x7 8 7)) 1) (gsT x10 8 1)⟩ ∧ St Px (Upto tileD winD (decT x4 x7 x10) ga 271) Pb Pr Py s) := by
  unfold k0_part591
  repeat' first
    | with_reducible exact Tr.ret'
    | with_reducible exact Tr.pure'
    | (with_reducible apply stA h.w15
       case hn => simp only [Nat.reduceAdd]; rfl
       case hlt => decide
       case ho => exact rfl
       case hv => rfl)
    | (apply ldUA h.r15
       case hlt => decide
       case ho => rfl)
    | exact ldC h.r8
    | exact ldC h.r11
    | with_reducible apply Tr.step
    | apply Tr.step
    | exact Tr.ret fun s hs => ⟨rfl, hs⟩

end Cert.KernelIdeal.Walk
-- ==== Proof.Step6.lean ====
/- A step: decoding the next first weight block, further on. -/
module

public import proofs.«01_k».proof.Proof.Funs

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- Decoding the next first weight block, continued. -/
theorem t592 (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) :
    Tr c E R (St Px (Upto tileD winD (decT x4 x7 x10) ga 271) Pb Pr Py)
      (k0_part592 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (lutT x4 0) (lutT x4 1) (scT x10 8) (mulf (halfT (pairT x4 (codeT x7 8 7)) 1) (gsT x10 8 1)))
      (fun a s => a = ⟨scT x10 13, broadcastTo S32x128 (shapeCast S32x1 (extractStridedSlice S32x1 ![0, 3] (scT x10 13) slices_S32x4_o0_3_S32x1) shapeCasts_S32x1_S32x1) broadcasts_S32x1_S32x128⟩ ∧ St Px (Upto tileD winD (decT x4 x7 x10) ga 442) Pb Pr Py s) := by
  unfold k0_part592
  repeat' first
    | with_reducible exact Tr.ret'
    | with_reducible exact Tr.pure'
    | (with_reducible apply stA h.w15
       case hn => simp only [Nat.reduceAdd]; rfl
       case hlt => decide
       case ho => exact rfl
       case hv => rfl)
    | (apply ldUA h.r15
       case hlt => decide
       case ho => rfl)
    | exact ldC h.r8
    | exact ldC h.r11
    | with_reducible apply Tr.step
    | apply Tr.step
    | exact Tr.ret fun s hs => ⟨rfl, hs⟩

end Cert.KernelIdeal.Walk
-- ==== Proof.Step7.lean ====
/- A step: the end of decoding the next first weight block, and the product by the second. -/
module

public import proofs.«01_k».proof.Proof.Funs

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- The end of decoding the next first weight block, and the product by the second. -/
theorem t593 (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) :
    Tr c E R (St (Full3 X) (Upto tileD winD (decT x4 x7 x10) ga 442) (Upto tileD winD (decT x4 x6 x9) gb 512) Pr (Upto tileY winY (mmT X W (gD (decT x4 x6 x9))) gy 3))
      (k0_part593 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (lutT x4 0) (lutT x4 1) (scT x10 13) (broadcastTo S32x128 (shapeCast S32x1 (extractStridedSlice S32x1 ![0, 3] (scT x10 13) slices_S32x4_o0_3_S32x1) shapeCasts_S32x1_S32x1) broadcasts_S32x1_S32x128))
      (fun a s => a = ⟨mmAcc X (gD (decT x4 x6 x9)) 2 14, shapeCast S384x256 (blk3 X S1x384x256.size 15 768 0 : FVec F S1x384x256 .bf16) shapeCasts_S1x384x256_S384x256⟩ ∧ St (Full3 X) (Upto tileD winD (decT x4 x7 x10) ga 512) (Upto tileD winD (decT x4 x6 x9) gb 512) Pr (Upto tileY winY (mmT X W (gD (decT x4 x6 x9))) gy 5) s) := by
  unfold k0_part593
  repeat' first
    | with_reducible exact Tr.ret'
    | with_reducible exact Tr.pure'
    | (with_reducible apply stA h.w15
       case hn => simp only [Nat.reduceAdd]; rfl
       case hlt => decide
       case ho => exact rfl
       case hv => rfl)
    | (with_reducible apply stY h.w12
       case hn => simp only [Nat.reduceAdd]; rfl
       case hlt => decide
       case ho => exact rfl
       case hv => rfl)
    | (apply ldUA h.r15
       case hlt => decide
       case ho => rfl)
    | (apply ldUY h.r12
       case hlt => decide
       case ho => rfl)
    | exact ldC h.r8
    | exact ldC h.r11
    | exact ldC h.r5
    | exact ldX h.r14 rfl
    | exact ldA h.r15
    | exact ldBu h.r16
    | with_reducible apply Tr.step
    | apply Tr.step
    | exact Tr.ret fun s hs => ⟨rfl, hs⟩

end Cert.KernelIdeal.Walk
-- ==== Proof.Body.lean ====
/- The body at a grid step: its parts put together, at the first step and at every other one. -/
module

public import proofs.«01_k».proof.Proof.Init4
public import proofs.«01_k».proof.Proof.Step1
public import proofs.«01_k».proof.Proof.Step2
public import proofs.«01_k».proof.Proof.Step3
public import proofs.«01_k».proof.Proof.Step4
public import proofs.«01_k».proof.Proof.Step5
public import proofs.«01_k».proof.Proof.Step6
public import proofs.«01_k».proof.Proof.Step7

@[expose] public section

noncomputable section

namespace Cert.KernelIdeal.Walk

open Cert.KernelIdeal Cert.KernelIdeal.Gen
open Idealize.ShloMosaic Idealize.ShloMosaic.TcCoe
open Idealize.SL Idealize.SL.Sem

variable {F : FTy → Type} [FloatOps F] {c : Dev nD} {E : Set ℕ} {R : Bufs F → AP F}
  {x0 : ℕ → ℕ → Elt F .bf16} {x1 : ℕ → ℕ → Elt F .f32} {x2 : ℕ → ℕ → Elt F .i8} {x3 : ℕ → ℕ → Elt F .bf16}
  {x4 : ℕ → ℕ → Elt F .i32} {x5 x6 x7 : ℕ → ℕ → Elt F .i8} {x8 x9 x10 : ℕ → ℕ → Elt F .f32}
  {arg1 : Memref sig .tc .vmem S1152x4096 .bf16} {arg2 : Memref sig .tc .vmem S1x4096 .f32} {arg3 : Memref sig .tc .vmem S1x4096 .i8}
  {arg4 : Memref sig .tc .vmem S256x256 .bf16} {arg5 : Memref sig .tc .vmem S2x128 .i32}
  {arg6 arg7 arg8 : Memref sig .tc .vmem S512x2048 .i8} {arg9 arg10 arg11 : Memref sig .tc .vmem S4x512 .f32}
  {arg12 : Memref sig .tc .vmem S1152x1024 .bf16} {arg13 : Memref sig .tc .vmem S1152x512 .bf16}
  {arg14 : Memref sig .tc .vmem S16x1152x256 .bf16} {arg15 arg16 : Memref sig .tc .vmem S512x4096 .bf16}
  {X : ℕ → ℕ → ℕ → F .bf16} {W : ℕ → ℕ → F .bf16}
  {gx : Vec F S16x1152x256 .bf16} {ga gb : Vec F S512x4096 .bf16} {gr : Vec F S1152x512 .bf16} {gy : Vec F S1152x1024 .bf16}
  {Px : Vec F S16x1152x256 .bf16 → Prop} {Pa Pb : Vec F S512x4096 .bf16 → Prop}
  {Pr : Vec F S1152x512 .bf16 → Prop} {Py : Vec F S1152x1024 .bf16 → Prop}

set_option maxHeartbeats 4000000 in
/-- A step, from what its first part leaves. -/
theorem body_from (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) {P₀ : Bufs F → Prop}
    (h₀ : Tr c E R P₀ (k0_part194 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) (fun a s => a = ⟨Scalar.muli (Scalar.minsi (BitVec.ofNat 32 (i 0).val) 7#32) 2#32, evenT, halfLaneT, srcT X (2 * min (i 0).val 7) 0 128, dynamicGather 1 (srcT X (2 * min (i 0).val 7) 0 0) (emitIdxT 1), emitIdxT 1⟩ ∧ St (Full3 X) (Full2 W) (Upto tileD winD (decT x4 x6 x9) gb 0) (Upto tileR winR (emitT X (2 * min (i 0).val 7)) gr 1) (Upto tileY winY (mmT X W (gD (decT x4 x6 x9))) gy 0) s)) :
    Tr c E R (P₀)
      (cc0_higgs_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun a s => a = PUnit.unit ∧ St (Full3 X) (Upto tileD winD (decT x4 x7 x10) (fun i => W (i 0) (i 1)) 512) (Upto tileD winD (decT x4 x6 x9) gb 512) (Upto tileR winR (emitT X (2 * min (i 0).val 7)) gr 36) (Upto tileY winY (mmT X W (gD (decT x4 x6 x9))) gy 6) s) := by
  unfold cc0_higgs_linear
  refine Tr.step (t587 h i harg1 harg2 harg3 harg4 harg5 harg6 harg7 harg8 harg9 harg10 harg11 harg12 harg13 harg14 harg15 harg16 h₀) ?_
  refine Tr.step (t588 h i harg1 harg2 harg3 harg4 harg5 harg6 harg7 harg8 harg9 harg10 harg11 harg12 harg13 harg14 harg15 harg16) ?_
  refine Tr.step (t589 h i harg1 harg2 harg3 harg4 harg5 harg6 harg7 harg8 harg9 harg10 harg11 harg12 harg13 harg14 harg15 harg16) ?_
  refine Tr.step (t590 h i harg1 harg2 harg3 harg4 harg5 harg6 harg7 harg8 harg9 harg10 harg11 harg12 harg13 harg14 harg15 harg16) ?_
  refine Tr.step (t591 h i harg1 harg2 harg3 harg4 harg5 harg6 harg7 harg8 harg9 harg10 harg11 harg12 harg13 harg14 harg15 harg16) ?_
  refine Tr.step (t592 h i harg1 harg2 harg3 harg4 harg5 harg6 harg7 harg8 harg9 harg10 harg11 harg12 harg13 harg14 harg15 harg16) ?_
  refine Tr.step (t593 h i harg1 harg2 harg3 harg4 harg5 harg6 harg7 harg8 harg9 harg10 harg11 harg12 harg13 harg14 harg15 harg16) ?_
  repeat' first
    | with_reducible exact Tr.ret'
    | with_reducible exact Tr.pure'
    | (with_reducible apply stY h.w12
       case hn => simp only [Nat.reduceAdd]; rfl
       case hlt => decide
       case ho => exact rfl
       case hv => rfl)
    | (apply ldUY h.r12
       case hlt => decide
       case ho => rfl)
    | exact ldBu h.r16
    | with_reducible apply Tr.step
    | apply Tr.step
    | exact Tr.ret fun s hs => ⟨rfl, hs⟩

set_option maxHeartbeats 4000000 in
/-- The first step. -/
theorem body_first (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) (k0_h1 : k0_cond1 i = 1#1) :
    Tr c E R (St (Upto tileX winX (fun n => xpB x0 x1 x2 x3 (n / 16) (n % 16)) gx 0) (Upto tileD winD (decT x4 x5 x8) ga 0) (Upto tileD winD (decT x4 x6 x9) gb 0) (Upto tileR winR (emitT (gX (fun n => xpB x0 x1 x2 x3 (n / 16) (n % 16))) (2 * min (i 0).val 7)) gr 0) (Upto tileY winY (mmT (gX (fun n => xpB x0 x1 x2 x3 (n / 16) (n % 16))) (gD (decT x4 x5 x8)) (gD (decT x4 x6 x9))) gy 0))
      (cc0_higgs_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun a s => a = PUnit.unit ∧ St (Full3 (gX (fun n => xpB x0 x1 x2 x3 (n / 16) (n % 16)))) (Upto tileD winD (decT x4 x7 x10) (fun i => (gD (decT x4 x5 x8)) (i 0) (i 1)) 512) (Upto tileD winD (decT x4 x6 x9) gb 512) (Upto tileR winR (emitT (gX (fun n => xpB x0 x1 x2 x3 (n / 16) (n % 16))) (2 * min (i 0).val 7)) gr 36) (Upto tileY winY (mmT (gX (fun n => xpB x0 x1 x2 x3 (n / 16) (n % 16))) (gD (decT x4 x5 x8)) (gD (decT x4 x6 x9))) gy 6) s) := by
  exact body_from h i harg1 harg2 harg3 harg4 harg5 harg6 harg7 harg8 harg9 harg10 harg11 harg12 harg13 harg14 harg15 harg16 (t194_first h i harg1 harg2 harg3 harg4 harg5 harg6 harg7 harg8 harg9 harg10 harg11 harg12 harg13 harg14 harg15 harg16 k0_h1)

set_option maxHeartbeats 4000000 in
/-- A later step. -/
theorem body_later (h : Env c R x0 x1 x2 x3 x4 x5 x6 x7 x8 x9 x10 arg1 arg2 arg3 arg4 arg5 arg6 arg7 arg8 arg9 arg10 arg11 arg12 arg13 arg14 arg15 arg16) (i : grid0.Coords)
    (harg1 harg2 harg3 harg4 harg5 harg6 harg7 harg8 harg9 harg10 harg11 harg12 harg13 harg14 harg15 harg16) (k0_h1 : ¬ k0_cond1 i = 1#1) :
    Tr c E R (St (Full3 X) (Full2 W) (Upto tileD winD (decT x4 x6 x9) gb 0) (Upto tileR winR (emitT X (2 * min (i 0).val 7)) gr 0) (Upto tileY winY (mmT X W (gD (decT x4 x6 x9))) gy 0))
      (cc0_higgs_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun a s => a = PUnit.unit ∧ St (Full3 X) (Upto tileD winD (decT x4 x7 x10) (fun i => W (i 0) (i 1)) 512) (Upto tileD winD (decT x4 x6 x9) gb 512) (Upto tileR winR (emitT X (2 * min (i 0).val 7)) gr 36) (Upto tileY winY (mmT X W (gD (decT x4 x6 x9))) gy 6) s) := by
  exact body_from h i harg1 harg2 harg3 harg4 harg5 harg6 harg7 harg8 harg9 harg10 harg11 harg12 harg13 harg14 harg15 harg16 (t194_later h i harg1 harg2 harg3 harg4 harg5 harg6 harg7 harg8 harg9 harg10 harg11 harg12 harg13 harg14 harg15 harg16 k0_h1)

end Cert.KernelIdeal.Walk
-- ==== Proof.Assemble.lean ====
/- The body's buffers as one assertion: the eleven inputs, the two outputs and the three scratch buffers, side by side. -/
module

public import proofs.«01_k».proof.Proof.Body

@[expose] public section

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {σ : Type} {c : Dev nD}

/-- Reading the last of several arrays. -/
theorem Rd.last {sh : Shape} {e : EltTy} {m : Memref sig .tc .vmem sh e} {f : σ → sh.Idx → Elt F e} :
    Rd c (fun s => (owns (c : Thread nD τ) m fullShare (f s) : AP F)) m f :=
  ⟨fun s => by
    iintro H
    isplitl [H]
    · iexact H
    · iintro H; iexact H⟩

/-- Reading the first of several arrays. -/
theorem Rd.head {sh : Shape} {e : EltTy} {m : Memref sig .tc .vmem sh e} {f : σ → sh.Idx → Elt F e} {B : σ → AP F} :
    Rd c (fun s => iprop(owns (c : Thread nD τ) m fullShare (f s) ∗ B s)) m f :=
  ⟨fun s => by
    iintro ⟨H, HB⟩
    isplitl [H]
    · iexact H
    · iintro H
      isplitl [H]
      · iexact H
      · iexact HB⟩

/-- Reading one of the arrays after the first. -/
theorem Rd.tail {sh : Shape} {e : EltTy} {m : Memref sig .tc .vmem sh e} {f : σ → sh.Idx → Elt F e} {A B : σ → AP F}
    (h : Rd c B m f) : Rd c (fun s => iprop(A s ∗ B s)) m f :=
  ⟨fun s => by
    iintro ⟨HA, HB⟩
    ihave HB := (h.rd s) $$ HB
    icases HB with ⟨H, HB⟩
    isplitl [H]
    · iexact H
    · iintro H
      isplitl [HA]
      · iexact HA
      · iapply HB; iexact H⟩

/-- Writing the last of several arrays. -/
theorem Wr.last {sh : Shape} {e : EltTy} {m : Memref sig .tc .vmem sh e} {f : σ → sh.Idx → Elt F e}
    {u : σ → (sh.Idx → Elt F e) → σ} (hu : ∀ s w, f (u s w) = w) :
    Wr c (fun s => (owns (c : Thread nD τ) m fullShare (f s) : AP F)) m f u :=
  ⟨fun s => by
    iintro H
    isplitl [H]
    · iexact H
    · iintro %w H; rw [hu]; iexact H⟩

/-- Writing the first of several arrays. -/
theorem Wr.head {sh : Shape} {e : EltTy} {m : Memref sig .tc .vmem sh e} {f : σ → sh.Idx → Elt F e} {B : σ → AP F}
    {u : σ → (sh.Idx → Elt F e) → σ} (hu : ∀ s w, f (u s w) = w) (hB : ∀ s w, B (u s w) = B s) :
    Wr c (fun s => iprop(owns (c : Thread nD τ) m fullShare (f s) ∗ B s)) m f u :=
  ⟨fun s => by
    iintro ⟨H, HB⟩
    isplitl [H]
    · iexact H
    · iintro %w H
      rw [hu, hB]
      isplitl [H]
      · iexact H
      · iexact HB⟩

/-- Writing one of the arrays after the first. -/
theorem Wr.tail {sh : Shape} {e : EltTy} {m : Memref sig .tc .vmem sh e} {f : σ → sh.Idx → Elt F e} {A B : σ → AP F}
    {u : σ → (sh.Idx → Elt F e) → σ} (hA : ∀ s w, A (u s w) = A s) (h : Wr c B m f u) :
    Wr c (fun s => iprop(A s ∗ B s)) m f u :=
  ⟨fun s => by
    iintro ⟨HA, HB⟩
    ihave HB := (h.wr s) $$ HB
    icases HB with ⟨H, HB⟩
    isplitl [H]
    · iexact H
    · iintro %w H
      rw [hA]
      isplitl [HA]
      · iexact HA
      · iapply HB; iexact H⟩

variable (c)
variable (x0 : ℕ → ℕ → Elt F .bf16) (x1 : ℕ → ℕ → Elt F .f32) (x2 : ℕ → ℕ → Elt F .i8) (x3 : ℕ → ℕ → Elt F .bf16)
    (x4 : ℕ → ℕ → Elt F .i32) (x5 x6 x7 : ℕ → ℕ → Elt F .i8) (x8 x9 x10 : ℕ → ℕ → Elt F .f32)
    (arg1 : Memref sig .tc .vmem S1152x4096 .bf16) (arg2 : Memref sig .tc .vmem S1x4096 .f32) (arg3 : Memref sig .tc .vmem S1x4096 .i8)
    (arg4 : Memref sig .tc .vmem S256x256 .bf16) (arg5 : Memref sig .tc .vmem S2x128 .i32)
    (arg6 arg7 arg8 : Memref sig .tc .vmem S512x2048 .i8) (arg9 arg10 arg11 : Memref sig .tc .vmem S4x512 .f32)
    (arg12 : Memref sig .tc .vmem S1152x1024 .bf16) (arg13 : Memref sig .tc .vmem S1152x512 .bf16)
    (arg14 : Memref sig .tc .vmem S16x1152x256 .bf16) (arg15 arg16 : Memref sig .tc .vmem S512x4096 .bf16)

/-- All the body's buffers: the inputs at fixed contents, the outputs and the scratch at the state's. -/
def RAll (s : Bufs F) : AP F :=
  iprop(owns (c : Thread nD τ) arg1 fullShare (fun i => x0 (i 0) (i 1))
    ∗ owns (c : Thread nD τ) arg2 fullShare (fun i => x1 (i 0) (i 1))
    ∗ owns (c : Thread nD τ) arg3 fullShare (fun i => x2 (i 0) (i 1))
    ∗ owns (c : Thread nD τ) arg4 fullShare (fun i => x3 (i 0) (i 1))
    ∗ owns (c : Thread nD τ) arg5 fullShare (fun i => x4 (i 0) (i 1))
    ∗ owns (c : Thread nD τ) arg6 fullShare (fun i => x5 (i 0) (i 1))
    ∗ owns (c : Thread nD τ) arg7 fullShare (fun i => x6 (i 0) (i 1))
    ∗ owns (c : Thread nD τ) arg8 fullShare (fun i => x7 (i 0) (i 1))
    ∗ owns (c : Thread nD τ) arg9 fullShare (fun i => x8 (i 0) (i 1))
    ∗ owns (c : Thread nD τ) arg10 fullShare (fun i => x9 (i 0) (i 1))
    ∗ owns (c : Thread nD τ) arg11 fullShare (fun i => x10 (i 0) (i 1))
    ∗ owns (c : Thread nD τ) arg12 fullShare s.y
    ∗ owns (c : Thread nD τ) arg13 fullShare s.xr
    ∗ owns (c : Thread nD τ) arg14 fullShare s.xp
    ∗ owns (c : Thread nD τ) arg15 fullShare s.wa
    ∗ owns (c : Thread nD τ) arg16 fullShare s.wb)

/-- The body finds every buffer it reads or writes in that assertion. -/
theorem env_all : Env c (RAll c x0 x1 x2 x3 x4 x5 x6 x7 x8 x9 x10 arg1 arg2 arg3 arg4 arg5 arg6 arg7 arg8 arg9 arg10 arg11 arg12 arg13 arg14 arg15 arg16)
    x0 x1 x2 x3 x4 x5 x6 x7 x8 x9 x10 arg1 arg2 arg3 arg4 arg5 arg6 arg7 arg8 arg9 arg10 arg11 arg12 arg13 arg14 arg15 arg16 where
  r1 := .head
  r2 := .tail .head
  r3 := .tail (.tail .head)
  r4 := .tail (.tail (.tail .head))
  r5 := .tail (.tail (.tail (.tail .head)))
  r6 := .tail (.tail (.tail (.tail (.tail .head))))
  r7 := .tail (.tail (.tail (.tail (.tail (.tail .head)))))
  r8 := .tail (.tail (.tail (.tail (.tail (.tail (.tail .head))))))
  r9 := .tail (.tail (.tail (.tail (.tail (.tail (.tail (.tail .head)))))))
  r10 := .tail (.tail (.tail (.tail (.tail (.tail (.tail (.tail (.tail .head))))))))
  r11 := .tail (.tail (.tail (.tail (.tail (.tail (.tail (.tail (.tail (.tail .head)))))))))
  r12 := .tail (.tail (.tail (.tail (.tail (.tail (.tail (.tail (.tail (.tail (.tail .head))))))))))
  r13 := .tail (.tail (.tail (.tail (.tail (.tail (.tail (.tail (.tail (.tail (.tail (.tail .head)))))))))))
  r14 := .tail (.tail (.tail (.tail (.tail (.tail (.tail (.tail (.tail (.tail (.tail (.tail (.tail .head))))))))))))
  r15 := .tail (.tail (.tail (.tail (.tail (.tail (.tail (.tail (.tail (.tail (.tail (.tail (.tail (.tail .head)))))))))))))
  r16 := .tail (.tail (.tail (.tail (.tail (.tail (.tail (.tail (.tail (.tail (.tail (.tail (.tail (.tail (.tail .last))))))))))))))
  w12 := by
    iterate 11 refine .tail (fun _ _ => rfl) ?_
    exact .head (fun _ _ => rfl) (fun _ _ => rfl)
  w13 := by
    iterate 12 refine .tail (fun _ _ => rfl) ?_
    exact .head (fun _ _ => rfl) (fun _ _ => rfl)
  w14 := by
    iterate 13 refine .tail (fun _ _ => rfl) ?_
    exact .head (fun _ _ => rfl) (fun _ _ => rfl)
  w15 := by
    iterate 14 refine .tail (fun _ _ => rfl) ?_
    exact .head (fun _ _ => rfl) (fun _ _ => rfl)
  w16 := by
    iterate 15 refine .tail (fun _ _ => rfl) ?_
    exact .last (fun _ _ => rfl)

variable {c}

/-- A run, with what follows it. -/
theorem Tr.cps {E : Set ℕ} {R : σ → AP F} {P : σ → Prop} {α : Type} {p : Prog (TpuEff nD τ sig (Elt F) Λ₀ .tc) α} {Q : α → σ → Prop}
    (h : Tr c E R P p Q) (s : σ) (hs : P s) (Φ : α → AP F) :
    iprop(R s ∗ (∀ a s', ⌜Q a s'⌝ -∗ R s' -∗ Φ a)) ⊢ wp frame (wpE (defs₀ (F := F)) Variants.none (c : Thread nD τ) none) E p Φ := by
  refine BIBase.Entails.trans (sep_mono_l (h.run s hs)) ?_
  refine BIBase.Entails.trans (wp_frame_r _ _ _) (wp_mono _ _ _ fun a => ?_)
  iintro ⟨⟨%s', %hq, H⟩, HΦ⟩
  ihave H2 := HΦ $$ %a %s' %hq H
  iexact H2

end Cert.KernelIdeal.Walk
-- ==== Proof.Blocks.lean ====
/- The arrays the kernel's blocks are cut from, as functions of a row and a column, and every block of every grid point
   in terms of them. -/
module

public import proofs.«01_k».proof.Proof.Assemble
public import proofs.«01_k».proof.Proof.Gen.KernelIdeal.Points
public import proofs.«01_k».proof.Proof.Gen.KernelIdeal.Frame
public import Idealize.ShloMosaic.Lib.Pipeline.ValueKit.Geometry

@[expose] public section

noncomputable section

namespace Cert.KernelIdeal.Walk

open Cert.KernelIdeal Cert.KernelIdeal.Gen
open Idealize.ShloMosaic Idealize.ShloMosaic.TcCoe Idealize.ShloMosaic.Tactic
open Idealize.SL Idealize.SL.Sem
open Idealize.ShloMosaic.ValueIdx

/-- An array as a function of a row and a column, continued periodically past its ends. -/
def ext2 {V : Type} {n0 n1 : ℕ} (h0 : 0 < n0) (h1 : 0 < n1) (x : (⟨2, ![n0, n1]⟩ : Shape).Idx → V) (a b : ℕ) : V :=
  x (ix2 (n0 := n0) (n1 := n1) ⟨a % n0, Nat.mod_lt _ h0⟩ ⟨b % n1, Nat.mod_lt _ h1⟩)

/-- At the coordinates of an index, the array over numbers is the element at that index. -/
theorem ext2_of {V : Type} {n0 n1 : ℕ} (h0 : 0 < n0) (h1 : 0 < n1) (x : (⟨2, ![n0, n1]⟩ : Shape).Idx → V)
    (i : (⟨2, ![n0, n1]⟩ : Shape).Idx) {a b : ℕ} (ha : (i 0).val = a) (hb : (i 1).val = b) : ext2 h0 h1 x a b = x i := by
  subst ha hb
  unfold ext2
  congr 1
  funext k
  rcases k with ⟨_ | _ | k, hk⟩
  · exact Fin.ext (Nat.mod_eq_of_lt (i 0).isLt)
  · exact Fin.ext (Nat.mod_eq_of_lt (i 1).isLt)
  · exact absurd hk (by simp)

variable {F : FTy → Type} [FloatOps F]
variable (m : (ℓ : Loc nD τ sig) → Buf (Elt F) ℓ) (c : Dev nD)

/-- The activations. -/
def aX : ℕ → ℕ → Elt F .bf16 := ext2 (n0 := 1152) (n1 := 4096) (by decide) (by decide) (V m c main_v3)
/-- The gain. -/
def aG : ℕ → ℕ → Elt F .f32 := ext2 (n0 := 1) (n1 := 4096) (by decide) (by decide) (V m c main_v4)
/-- The signs. -/
def aS : ℕ → ℕ → Elt F .i8 := ext2 (n0 := 1) (n1 := 4096) (by decide) (by decide) (V m c main_v5)
/-- The Hadamard matrix. -/
def aH : ℕ → ℕ → Elt F .bf16 := ext2 (n0 := 256) (n1 := 256) (by decide) (by decide) (V m c main_cst)
/-- The codebook pairs. -/
def aL : ℕ → ℕ → Elt F .i32 := ext2 (n0 := 2) (n1 := 128) (by decide) (by decide) (V m c main_v1)
/-- The codes. -/
def aC : ℕ → ℕ → Elt F .i8 := ext2 (n0 := 14336) (n1 := 2048) (by decide) (by decide) (V m c main_arg4)
/-- The scales. -/
def aZ : ℕ → ℕ → Elt F .f32 := ext2 (n0 := 4) (n1 := 14336) (by decide) (by decide) (V m c main_v2)

/-- The codes of weight block `q`. -/
def bC (q : ℕ) : ℕ → ℕ → Elt F .i8 := fun a b => aC m c (512 * q + a) b
/-- The scales of weight block `q`. -/
def bZ (q : ℕ) : ℕ → ℕ → Elt F .f32 := fun a b => aZ m c a (512 * q + b)

/-- There are fourteen steps. -/
theorem tN (t : Fin cfg0.N) : t.val < 14 := lt_of_lt_of_eq t.isLt (show cfg0.N = 14 from N_0)

/-- The block of window 0 at a step. -/
theorem e0_0 : ∀ t : Fin cfg0.N, win0_0.index t = ![0, 0] := (by decide +kernel : ∀ t : Fin grid0.N, win0_0.index t = ![0, 0])
/-- The block of window 1 at a step. -/
theorem e0_1 : ∀ t : Fin cfg0.N, win0_1.index t = ![0, 0] := (by decide +kernel : ∀ t : Fin grid0.N, win0_1.index t = ![0, 0])
/-- The block of window 2 at a step. -/
theorem e0_2 : ∀ t : Fin cfg0.N, win0_2.index t = ![0, 0] := (by decide +kernel : ∀ t : Fin grid0.N, win0_2.index t = ![0, 0])
/-- The block of window 3 at a step. -/
theorem e0_3 : ∀ t : Fin cfg0.N, win0_3.index t = ![0, 0] := (by decide +kernel : ∀ t : Fin grid0.N, win0_3.index t = ![0, 0])
/-- The block of window 4 at a step. -/
theorem e0_4 : ∀ t : Fin cfg0.N, win0_4.index t = ![0, 0] := (by decide +kernel : ∀ t : Fin grid0.N, win0_4.index t = ![0, 0])
/-- The block of window 5 at a step. -/
theorem e0_5 : ∀ t : Fin cfg0.N, win0_5.index t = ![0, 0] := (by decide +kernel : ∀ t : Fin grid0.N, win0_5.index t = ![0, 0])
/-- The block of window 6 at a step. -/
theorem e0_6 : ∀ t : Fin cfg0.N, win0_6.index t = ![2 * t.val + 1, 0] := (by decide +kernel : ∀ t : Fin grid0.N, win0_6.index t = ![2 * t.val + 1, 0])
/-- The block of window 7 at a step. -/
theorem e0_7 : ∀ t : Fin cfg0.N, win0_7.index t = ![min (2 * t.val + 2) 27, 0] := (by decide +kernel : ∀ t : Fin grid0.N, win0_7.index t = ![min (2 * t.val + 2) 27, 0])
/-- The block of window 8 at a step. -/
theorem e0_8 : ∀ t : Fin cfg0.N, win0_8.index t = ![0, 0] := (by decide +kernel : ∀ t : Fin grid0.N, win0_8.index t = ![0, 0])
/-- The block of window 9 at a step. -/
theorem e0_9 : ∀ t : Fin cfg0.N, win0_9.index t = ![0, 2 * t.val + 1] := (by decide +kernel : ∀ t : Fin grid0.N, win0_9.index t = ![0, 2 * t.val + 1])
/-- The block of window 10 at a step. -/
theorem e0_10 : ∀ t : Fin cfg0.N, win0_10.index t = ![0, min (2 * t.val + 2) 27] := (by decide +kernel : ∀ t : Fin grid0.N, win0_10.index t = ![0, min (2 * t.val + 2) 27])
/-- The block of window 11 at a step. -/
theorem e0_11 : ∀ t : Fin cfg0.N, win0_11.index t = ![0, t.val] := (by decide +kernel : ∀ t : Fin grid0.N, win0_11.index t = ![0, t.val])
/-- The block of window 12 at a step. -/
theorem e0_12 : ∀ t : Fin cfg0.N, win0_12.index t = ![0, min t.val 7] := (by decide +kernel : ∀ t : Fin grid0.N, win0_12.index t = ![0, min t.val 7])
/-- The coordinate of a step is its number. -/
theorem e_coord : ∀ t : Fin cfg0.N, (grid0.coords t 0).val = t.val := (by decide +kernel : ∀ t : Fin grid0.N, (grid0.coords t 0).val = t.val)

/-- What window 0 holds at a step. -/
theorem iblk_0 (t : Fin cfg0.N) : iblk m c 0 t = fun i : S1152x4096.Idx => aX m c (i 0) (i 1) := by
  funext i
  refine Eq.symm (ext2_of _ _ _ ((win0_0.blk t).view.emb i) ?_ ?_) <;> blk_simp [e0_0] <;> simp

/-- What window 1 holds at a step. -/
theorem iblk_1 (t : Fin cfg0.N) : iblk m c 1 t = fun i : S1x4096.Idx => aG m c (i 0) (i 1) := by
  funext i
  refine Eq.symm (ext2_of _ _ _ ((win0_1.blk t).view.emb i) ?_ ?_) <;> blk_simp [e0_1] <;> simp

/-- What window 2 holds at a step. -/
theorem iblk_2 (t : Fin cfg0.N) : iblk m c 2 t = fun i : S1x4096.Idx => aS m c (i 0) (i 1) := by
  funext i
  refine Eq.symm (ext2_of _ _ _ ((win0_2.blk t).view.emb i) ?_ ?_) <;> blk_simp [e0_2] <;> simp

/-- What window 3 holds at a step. -/
theorem iblk_3 (t : Fin cfg0.N) : iblk m c 3 t = fun i : S256x256.Idx => aH m c (i 0) (i 1) := by
  funext i
  refine Eq.symm (ext2_of _ _ _ ((win0_3.blk t).view.emb i) ?_ ?_) <;> blk_simp [e0_3] <;> simp

/-- What window 4 holds at a step. -/
theorem iblk_4 (t : Fin cfg0.N) : iblk m c 4 t = fun i : S2x128.Idx => aL m c (i 0) (i 1) := by
  funext i
  refine Eq.symm (ext2_of _ _ _ ((win0_4.blk t).view.emb i) ?_ ?_) <;> blk_simp [e0_4] <;> simp

/-- What window 5 holds at a step. -/
theorem iblk_5 (t : Fin cfg0.N) : iblk m c 5 t = fun i : S512x2048.Idx => bC m c 0 (i 0) (i 1) := by
  funext i
  refine Eq.symm (ext2_of (n0 := 14336) (n1 := 2048) (by decide) (by decide) (V m c main_arg4) ((win0_5.blk t).view.emb i) ?_ ?_) <;> blk_simp [e0_5] <;> simp

/-- What window 6 holds at a step. -/
theorem iblk_6 (t : Fin cfg0.N) : iblk m c 6 t = fun i : S512x2048.Idx => bC m c (2 * t.val + 1) (i 0) (i 1) := by
  funext i
  refine Eq.symm (ext2_of (n0 := 14336) (n1 := 2048) (by decide) (by decide) (V m c main_arg4) ((win0_6.blk t).view.emb i) ?_ ?_) <;> blk_simp [e0_6] <;> simp [Nat.mul_comm]

/-- What window 7 holds at a step. -/
theorem iblk_7 (t : Fin cfg0.N) : iblk m c 7 t = fun i : S512x2048.Idx => bC m c (min (2 * t.val + 2) 27) (i 0) (i 1) := by
  funext i
  refine Eq.symm (ext2_of (n0 := 14336) (n1 := 2048) (by decide) (by decide) (V m c main_arg4) ((win0_7.blk t).view.emb i) ?_ ?_) <;> blk_simp [e0_7] <;> simp [Nat.mul_comm]

/-- What window 8 holds at a step. -/
theorem iblk_8 (t : Fin cfg0.N) : iblk m c 8 t = fun i : S4x512.Idx => bZ m c 0 (i 0) (i 1) := by
  funext i
  refine Eq.symm (ext2_of (n0 := 4) (n1 := 14336) (by decide) (by decide) (V m c main_v2) ((win0_8.blk t).view.emb i) ?_ ?_) <;> blk_simp [e0_8] <;> simp

/-- What window 9 holds at a step. -/
theorem iblk_9 (t : Fin cfg0.N) : iblk m c 9 t = fun i : S4x512.Idx => bZ m c (2 * t.val + 1) (i 0) (i 1) := by
  funext i
  refine Eq.symm (ext2_of (n0 := 4) (n1 := 14336) (by decide) (by decide) (V m c main_v2) ((win0_9.blk t).view.emb i) ?_ ?_) <;> blk_simp [e0_9] <;> simp [Nat.mul_comm]

/-- What window 10 holds at a step. -/
theorem iblk_10 (t : Fin cfg0.N) : iblk m c 10 t = fun i : S4x512.Idx => bZ m c (min (2 * t.val + 2) 27) (i 0) (i 1) := by
  funext i
  refine Eq.symm (ext2_of (n0 := 4) (n1 := 14336) (by decide) (by decide) (V m c main_v2) ((win0_10.blk t).view.emb i) ?_ ?_) <;> blk_simp [e0_10] <;> simp [Nat.mul_comm]

end Cert.KernelIdeal.Walk
-- ==== Proof.Pipe.lean ====
/- The pipelined kernel, point by point: what each grid point finds in its buffers and leaves there, and from that the whole
   run: the two result arrays in closed form, and every other array as it was. -/
module

public import proofs.«01_k».proof.Proof.Blocks
public import Idealize.ShloMosaic.Lib.Claim

@[expose] public section

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg) (c : Dev nD)

/-- The rotated activations. -/
def XX : ℕ → ℕ → ℕ → F .bf16 := gX (fun n => xpB (aX m c) (aG m c) (aS m c) (aH m c) (n / 16) (n % 16))

/-- The decoded weights of block `q`. -/
def DD (q : ℕ) : ℕ → Vec F S32x128 .bf16 := decT (aL m c) (bC m c q) (bZ m c q)

/-- What point `t` leaves in its block of the product. -/
def afterY (t : ℕ) : Vec F S1152x1024 .bf16 :=
  fun i => mmT (XX m c) (gD (DD m c (2 * t))) (gD (DD m c (2 * t + 1))) (tileY i) (winY i)

/-- What point `t` leaves in its block of the rotated activations. -/
def afterR (t : ℕ) : Vec F S1152x512 .bf16 := fun i => emitT (XX m c) (2 * min t 7) (tileR i) (winR i)

/-- The scratch buffers as memrefs. -/
abbrev scM0 : Memref sig .tc .vmem S16x1152x256 .bf16 := Memref.whole cc0_scratch0
abbrev scM1 : Memref sig .tc .vmem S512x4096 .bf16 := Memref.whole cc0_scratch1
abbrev scM2 : Memref sig .tc .vmem S512x4096 .bf16 := Memref.whole cc0_scratch2

/-- The scratch buffers before point `t`: at first anything; later the rotated activations are there, and the first
    weight block of the point is decoded. -/
def PhiV (t : ℕ) : AP F :=
  iprop(iprop((∃ d, ⌜0 < t → Full3 (XX m c) d⌝ ∗ owns (c : Thread nD τ) scM0 fullShare d)
    ∗ (∃ d, ⌜0 < t → Full2 (gD (DD m c (min (2 * t) 27))) d⌝ ∗ owns (c : Thread nD τ) scM1 fullShare d)
    ∗ (∃ d, owns (c : Thread nD τ) scM2 fullShare d)) ∗ (∃ r, prngReg c r))

/-- With the scratch buffers as memrefs owned at some contents. -/
theorem PhiA_eq :
    (Pipeline.ΦA spec0 c : AP F)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- Before the first step the scratch buffers may hold anything. -/
theorem phi_in : (Pipeline.ΦA spec0 c : AP F) ⊢ PhiV m c 0 := by
  rw [PhiA_eq]; unfold PhiV
  iintro ⟨⟨⟨%d0, H0⟩, ⟨%d1, H1⟩, H2⟩, Hg⟩
  isplitl [H0 H1 H2]
  · isplitl [H0]
    · iexists d0
      isplitr
      · ipureintro; intro h; exact absurd h (Nat.lt_irrefl 0)
      · iexact H0
    isplitl [H1]
    · iexists d1
      isplitr
      · ipureintro; intro h; exact absurd h (Nat.lt_irrefl 0)
      · iexact H1
    iexact H2
  iexact Hg

/-- What is known of the scratch buffers may be forgotten. -/
theorem phi_out (t : ℕ) : PhiV m c t ⊢ (Pipeline.ΦA spec0 c : AP F) := by
  rw [PhiA_eq]; unfold PhiV
  iintro ⟨⟨⟨%d0, -, H0⟩, ⟨%d1, -, H1⟩, H2⟩, Hg⟩
  isplitl [H0 H1 H2]
  · isplitl [H0]
    · iexists d0; iexact H0
    isplitl [H1]
    · iexists d1; iexact H1
    iexact H2
  iexact Hg

/-- The pipeline's data: every array as the region finds it; after the body each input's buffer at its block and each
    output's at its closed form; the scratch buffers as `PhiV` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => afterY m c t.val
    | ⟨12, _⟩ => afterR m c t.val
  Φ t := PhiV m c t.val
  q w := Pipeline.shareOf spec0 w
  owed _ := 0

/-- Before the steps each array holds what the host left in it. -/
theorem A_eq (c : Dev nD) (w : Fin cfg0.W) : (dats m 0 c).A w = V m c (Pipeline.arrRef spec0 w) := by
  dsimp only [dats]

/-- After a step the buffer of window 0 still holds its block. -/
theorem after0_0 (c : Dev nD) (t : Fin cfg0.N) : (dats m 0 c).after 0 t = iblk m c 0 t := by dsimp only [dats]
/-- After a step the buffer of window 1 still holds its block. -/
theorem after0_1 (c : Dev nD) (t : Fin cfg0.N) : (dats m 0 c).after 1 t = iblk m c 1 t := by dsimp only [dats]
/-- After a step the buffer of window 2 still holds its block. -/
theorem after0_2 (c : Dev nD) (t : Fin cfg0.N) : (dats m 0 c).after 2 t = iblk m c 2 t := by dsimp only [dats]
/-- After a step the buffer of window 3 still holds its block. -/
theorem after0_3 (c : Dev nD) (t : Fin cfg0.N) : (dats m 0 c).after 3 t = iblk m c 3 t := by dsimp only [dats]
/-- After a step the buffer of window 4 still holds its block. -/
theorem after0_4 (c : Dev nD) (t : Fin cfg0.N) : (dats m 0 c).after 4 t = iblk m c 4 t := by dsimp only [dats]
/-- After a step the buffer of window 5 still holds its block. -/
theorem after0_5 (c : Dev nD) (t : Fin cfg0.N) : (dats m 0 c).after 5 t = iblk m c 5 t := by dsimp only [dats]
/-- After a step the buffer of window 6 still holds its block. -/
theorem after0_6 (c : Dev nD) (t : Fin cfg0.N) : (dats m 0 c).after 6 t = iblk m c 6 t := by dsimp only [dats]
/-- After a step the buffer of window 7 still holds its block. -/
theorem after0_7 (c : Dev nD) (t : Fin cfg0.N) : (dats m 0 c).after 7 t = iblk m c 7 t := by dsimp only [dats]
/-- After a step the buffer of window 8 still holds its block. -/
theorem after0_8 (c : Dev nD) (t : Fin cfg0.N) : (dats m 0 c).after 8 t = iblk m c 8 t := by dsimp only [dats]
/-- After a step the buffer of window 9 still holds its block. -/
theorem after0_9 (c : Dev nD) (t : Fin cfg0.N) : (dats m 0 c).after 9 t = iblk m c 9 t := by dsimp only [dats]
/-- After a step the buffer of window 10 still holds its block. -/
theorem after0_10 (c : Dev nD) (t : Fin cfg0.N) : (dats m 0 c).after 10 t = iblk m c 10 t := by dsimp only [dats]
/-- After a step the buffer of window 11 holds its block of the first result. -/
theorem after0_11 (c : Dev nD) (t : Fin cfg0.N) : (dats m 0 c).after 11 t = afterY m c t.val := by dsimp only [dats]
/-- After a step the buffer of window 12 holds its block of the second result. -/
theorem after0_12 (c : Dev nD) (t : Fin cfg0.N) : (dats m 0 c).after 12 t = afterR m c t.val := by dsimp only [dats]

/-- Before a step the buffer of window 0 holds its block. -/
theorem before0_0 (c : Dev nD) (t : Fin cfg0.N) (d) : (dats m 0 c).before 0 t d = iblk m c 0 t :=
  before0_0_of m (dats m 0 c) (A_eq m c 0) (after0_0 m c) t d
/-- Before a step the buffer of window 1 holds its block. -/
theorem before0_1 (c : Dev nD) (t : Fin cfg0.N) (d) : (dats m 0 c).before 1 t d = iblk m c 1 t :=
  before0_1_of m (dats m 0 c) (A_eq m c 1) (after0_1 m c) t d
/-- Before a step the buffer of window 2 holds its block. -/
theorem before0_2 (c : Dev nD) (t : Fin cfg0.N) (d) : (dats m 0 c).before 2 t d = iblk m c 2 t :=
  before0_2_of m (dats m 0 c) (A_eq m c 2) (after0_2 m c) t d
/-- Before a step the buffer of window 3 holds its block. -/
theorem before0_3 (c : Dev nD) (t : Fin cfg0.N) (d) : (dats m 0 c).before 3 t d = iblk m c 3 t :=
  before0_3_of m (dats m 0 c) (A_eq m c 3) (after0_3 m c) t d
/-- Before a step the buffer of window 4 holds its block. -/
theorem before0_4 (c : Dev nD) (t : Fin cfg0.N) (d) : (dats m 0 c).before 4 t d = iblk m c 4 t :=
  before0_4_of m (dats m 0 c) (A_eq m c 4) (after0_4 m c) t d
/-- Before a step the buffer of window 5 holds its block. -/
theorem before0_5 (c : Dev nD) (t : Fin cfg0.N) (d) : (dats m 0 c).before 5 t d = iblk m c 5 t :=
  before0_5_of m (dats m 0 c) (A_eq m c 5) (after0_5 m c) t d
/-- Before a step the buffer of window 6 holds its block. -/
theorem before0_6 (c : Dev nD) (t : Fin cfg0.N) (d) : (dats m 0 c).before 6 t d = iblk m c 6 t :=
  before0_6_of m (dats m 0 c) (A_eq m c 6) (after0_6 m c) t d
/-- Before a step the buffer of window 7 holds its block. -/
theorem before0_7 (c : Dev nD) (t : Fin cfg0.N) (d) : (dats m 0 c).before 7 t d = iblk m c 7 t :=
  before0_7_of m (dats m 0 c) (A_eq m c 7) (after0_7 m c) t d
/-- Before a step the buffer of window 8 holds its block. -/
theorem before0_8 (c : Dev nD) (t : Fin cfg0.N) (d) : (dats m 0 c).before 8 t d = iblk m c 8 t :=
  before0_8_of m (dats m 0 c) (A_eq m c 8) (after0_8 m c) t d
/-- Before a step the buffer of window 9 holds its block. -/
theorem before0_9 (c : Dev nD) (t : Fin cfg0.N) (d) : (dats m 0 c).before 9 t d = iblk m c 9 t :=
  before0_9_of m (dats m 0 c) (A_eq m c 9) (after0_9 m c) t d
/-- Before a step the buffer of window 10 holds its block. -/
theorem before0_10 (c : Dev nD) (t : Fin cfg0.N) (d) : (dats m 0 c).before 10 t d = iblk m c 10 t :=
  before0_10_of m (dats m 0 c) (A_eq m c 10) (after0_10 m c) t d

/-- The staging buffer of each window at a point. -/
abbrev ms0_0 (t : Fin cfg0.N) : Memref sig .tc .vmem S1152x4096 .bf16 := win0_0.stage (cfg0.slots t 0)
abbrev ms0_1 (t : Fin cfg0.N) : Memref sig .tc .vmem S1x4096 .f32 := win0_1.stage (cfg0.slots t 1)
abbrev ms0_2 (t : Fin cfg0.N) : Memref sig .tc .vmem S1x4096 .i8 := win0_2.stage (cfg0.slots t 2)
abbrev ms0_3 (t : Fin cfg0.N) : Memref sig .tc .vmem S256x256 .bf16 := win0_3.stage (cfg0.slots t 3)
abbrev ms0_4 (t : Fin cfg0.N) : Memref sig .tc .vmem S2x128 .i32 := win0_4.stage (cfg0.slots t 4)
abbrev ms0_5 (t : Fin cfg0.N) : Memref sig .tc .vmem S512x2048 .i8 := win0_5.stage (cfg0.slots t 5)
abbrev ms0_6 (t : Fin cfg0.N) : Memref sig .tc .vmem S512x2048 .i8 := win0_6.stage (cfg0.slots t 6)
abbrev ms0_7 (t : Fin cfg0.N) : Memref sig .tc .vmem S512x2048 .i8 := win0_7.stage (cfg0.slots t 7)
abbrev ms0_8 (t : Fin cfg0.N) : Memref sig .tc .vmem S4x512 .f32 := win0_8.stage (cfg0.slots t 8)
abbrev ms0_9 (t : Fin cfg0.N) : Memref sig .tc .vmem S4x512 .f32 := win0_9.stage (cfg0.slots t 9)
abbrev ms0_10 (t : Fin cfg0.N) : Memref sig .tc .vmem S4x512 .f32 := win0_10.stage (cfg0.slots t 10)
abbrev ms0_11 (t : Fin cfg0.N) : Memref sig .tc .vmem S1152x1024 .bf16 := win0_11.stage (cfg0.slots t 11)
abbrev ms0_12 (t : Fin cfg0.N) : Memref sig .tc .vmem S1152x512 .bf16 := win0_12.stage (cfg0.slots t 12)

/-- The first point, and the later ones, as the body tests for it. -/
theorem hcond : ∀ t : Fin cfg0.N, k0_cond1 (grid0.coords t) = 1#1 ↔ t.val = 0 :=
  (by decide +kernel : ∀ t : Fin grid0.N, k0_cond1 (grid0.coords t) = 1#1 ↔ t.val = 0)

/-- What the body is called with at point `t`. -/
def bodyPre (c : Dev nD) (t : Fin cfg0.N) : AP F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What it returns. -/
def bodyPost (c : Dev nD) (t : Fin cfg0.N) : AP F :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

/-- A block of products has six tiles. -/
theorem lt_tileY (i : S1152x1024.Idx) : tileY i < 6 := by
  have h0 : (i 0).val < 1152 := (i 0).isLt
  have h1 : (i 1).val < 1024 := (i 1).isLt
  unfold tileY; omega

/-- A rotated result block has 36 tiles. -/
theorem lt_tileR (i : S1152x512.Idx) : tileR i < 36 := by
  have h0 : (i 0).val < 1152 := (i 0).isLt
  have h1 : (i 1).val < 512 := (i 1).isLt
  unfold tileR; omega

/-- The contents of the buffers a point finds give those it leaves. -/
theorem point (t : Fin cfg0.N) (E : Set ℕ) (d0 : Vec F S16x1152x256 .bf16) (d1 d2 : Vec F S512x4096 .bf16) (dr : Vec F S1152x512 .bf16) (dy : Vec F S1152x1024 .bf16)
    (h0 : 0 < t.val → Full3 (XX m c) d0) (h1 : 0 < t.val → Full2 (gD (DD m c (min (2 * t.val) 27))) d1) :
    ∃ (P : Bufs F → Prop) (Q : PUnit → Bufs F → Prop), P ⟨d0, d1, d2, dr, dy⟩
      ∧ Tr c E (RAll c (aX m c) (aG m c) (aS m c) (aH m c) (aL m c) (bC m c 0) (bC m c (2 * t.val + 1)) (bC m c (min (2 * t.val + 2) 27)) (bZ m c 0) (bZ m c (2 * t.val + 1)) (bZ m c (min (2 * t.val + 2) 27))
        (ms0_0 t) (ms0_1 t) (ms0_2 t) (ms0_3 t) (ms0_4 t) (ms0_5 t) (ms0_6 t) (ms0_7 t) (ms0_8 t) (ms0_9 t) (ms0_10 t) (ms0_11 t) (ms0_12 t) scM0 scM1 scM2) P (bodyAt0 t) Q
      ∧ ∀ a s, Q a s → Full3 (XX m c) s.xp ∧ Full2 (gD (DD m c (min (2 * t.val + 2) 27))) s.wa ∧ s.y = afterY m c t.val ∧ s.xr = afterR m c t.val := by
  have ht := tN t
  by_cases h : t.val = 0
  · refine ⟨_, _, ?_, body_first (gx := d0) (ga := d1) (gb := d2) (gr := dr) (gy := dy) (env_all c _ _ _ _ _ _ _ _ _ _ _ _ _ _ _ _ _ _ _ _ _ _ _ _ _ _ _) (grid0.coords t) _ _ _ _ _ _ _ _ _ _ _ _ _ _ _ _ ((hcond t).mpr h), ?_⟩
    · exact ⟨upto_zero _, upto_zero _, upto_zero _, upto_zero _, upto_zero _⟩
    · rintro a s ⟨-, hs⟩
      refine ⟨hs.xp, full_of_uptoD hs.wa, funext fun i => ?_, funext fun i => ?_⟩
      · rw [upto_eq hs.y lt_tileY i]
        unfold afterY
        rw [h]; rfl
      · rw [upto_eq hs.xr lt_tileR i]
        unfold afterR
        rw [e_coord]; rfl
  · have hp := Nat.pos_of_ne_zero h
    refine ⟨_, _, ?_, body_later (X := XX m c) (W := gD (DD m c (2 * t.val))) (gb := d2) (gr := dr) (gy := dy) (env_all c _ _ _ _ _ _ _ _ _ _ _ _ _ _ _ _ _ _ _ _ _ _ _ _ _ _ _) (grid0.coords t) _ _ _ _ _ _ _ _ _ _ _ _ _ _ _ _ (fun hc => h ((hcond t).mp hc)), ?_⟩
    · refine ⟨h0 hp, ?_, upto_zero _, upto_zero _, upto_zero _⟩
      have := h1 hp
      rwa [show min (2 * t.val) 27 = 2 * t.val by omega] at this
    · rintro a s ⟨-, hs⟩
      refine ⟨hs.xp, full_of_uptoD hs.wa, funext fun i => ?_, funext fun i => ?_⟩
      · rw [upto_eq hs.y lt_tileY i]; rfl
      · rw [upto_eq hs.xr lt_tileR i]
        unfold afterR
        rw [e_coord]

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10]
  rw [show (dats m 0 c).owesAt () t.succ = (dats m 0 c).owesAt () t.castSucc from rfl, after0_0, after0_1, after0_2, after0_3, after0_4, after0_5, after0_6, after0_7, after0_8, after0_9, after0_10, after0_11, after0_12]
  rw [show (dats m 0 c).Φ t.castSucc = PhiV m c t.val from rfl, show (dats m 0 c).Φ t.succ = PhiV m c (t.val + 1) from rfl]
  unfold PhiV
  rw [iblk_0, iblk_1, iblk_2, iblk_3, iblk_4, iblk_5, iblk_6, iblk_7, iblk_8, iblk_9, iblk_10]
  iintro ⟨⟨⟨⟨%e0, %he0, HS0⟩, ⟨%e1, %he1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain ⟨P, Q, hP, hT, hQ⟩ := point m c t Set.univ e0 e1 e2 ((dats m 0 c).before 12 t d12) ((dats m 0 c).before 11 t d11) he0 he1
  iapply (hT.cps ⟨e0, e1, e2, ((dats m 0 c).before 12 t d12), ((dats m 0 c).before 11 t d11)⟩ hP _)
  isplitl [H0 H1 H2 H3 H4 H5 H6 H7 H8 H9 H10 H11 H12 HS0 HS1 HS2]
  · unfold RAll
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    iexact HS2
  iintro %a %s %hq H
  obtain ⟨q0, q1, q2, q3⟩ := hQ a s hq
  rw [← q2, ← q3]
  unfold RAll
  icases H with ⟨H0, H1, H2, H3, H4, H5, H6, H7, H8, H9, H10, H11, H12, HS0, HS1, HS2⟩
  isplitl [HS0 HS1 HS2 Hg]
  · isplitl [HS0 HS1 HS2]
    · isplitl [HS0]
      · iexists s.xp
        isplitr
        · ipureintro; intro _; exact q0
        · iexact HS0
      isplitl [HS1]
      · iexists s.wa
        isplitr
        · ipureintro; intro _; exact q1
        · iexact HS1
      iexists s.wb
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: it terminates, every array ends as the proof data say, every other buffer as the host lines leave it, and
    every semaphore counter is zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := fun c => phi_in m c) (hout := fun c => phi_out m c _)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_main m ρ))

end Cert.KernelIdeal.Walk
-- ==== Proof.Final.lean ====
/- The two results of the kernel: each array is filled block by block, and the host's reshape gives it its three axes. -/
module

public import proofs.«01_k».proof.Proof.Pipe

@[expose] public section

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.Sem
open Idealize.ShloMosaic.ValueIdx
open Idealize.ShloMosaic.Pipeline (Dat Cfg Window cellOf)

variable {F : FTy → Type} [FloatOps F]
variable (m : (ℓ : Loc nD τ sig) → Buf (Elt F) ℓ) (ρ : Dev nD → PrngReg) (c : Dev nD)

/-- The product as one array. -/
def outY : S1152x14336.Idx → F .bf16 := fun i =>
  afterY m c ((i 1).val / 1024) (ix2 (n0 := 1152) (n1 := 1024) (i 0) ⟨(i 1).val % 1024, Nat.mod_lt _ (by decide)⟩)

/-- The rotated activations as one array. -/
def outR : S1152x4096.Idx → F .bf16 := fun i =>
  afterR m c ((i 1).val / 512) (ix2 (n0 := 1152) (n1 := 512) (i 0) ⟨(i 1).val % 512, Nat.mod_lt _ (by decide)⟩)

/-- An element of a block of the first result is the element of the whole at its place. -/
theorem outY_at {t : ℕ} {y : S1152x1024.Idx} {i : S1152x14336.Idx} (h0 : (i 0).val = (y 0).val) (h1 : (i 1).val = 1024 * t + (y 1).val) :
    afterY m c t y = outY m c i := by
  have hy : (y 1).val < 1024 := (y 1).isLt
  have e1 : (i 1).val / 1024 = t := by omega
  have e2 : (i 1).val % 1024 = (y 1).val := by omega
  unfold outY
  rw [e1]
  congr 1
  funext a
  apply Fin.ext
  match a with
  | ⟨0, _⟩ => exact h0.symm
  | ⟨1, _⟩ => exact e2.symm

/-- An element of a block of the second result is the element of the whole at its place. -/
theorem outR_at {t : ℕ} {y : S1152x512.Idx} {i : S1152x4096.Idx} (h0 : (i 0).val = (y 0).val) (h1 : (i 1).val = 512 * min t 7 + (y 1).val) :
    afterR m c t y = outR m c i := by
  have hy : (y 1).val < 512 := (y 1).isLt
  have e1 : min ((i 1).val / 512) 7 = min t 7 := by omega
  have e2 : (i 1).val % 512 = (y 1).val := by omega
  unfold outR afterR
  rw [e1]
  have e : (ix2 (n0 := 1152) (n1 := 512) (i 0) ⟨(i 1).val % 512, Nat.mod_lt _ (by decide)⟩ : S1152x512.Idx) = y := by
    funext a
    apply Fin.ext
    match a with
    | ⟨0, _⟩ => exact h0
    | ⟨1, _⟩ => exact e2
  rw [e]

/-- The array of the product after the run. -/
theorem arrY : (dats m 0 c).arrAt 11 (cfgs 0).N = outY m c := by
  refine (dats m 0 c).arrAt_eq_of_covers 11 _ (by decide +kernel) fun t hf y => ?_
  blk_simp
  rw [after0_11]
  refine outY_at m c ?_ ?_ <;> blk_simp [e0_11] <;> simp [Nat.mul_comm]

/-- The array of the rotated activations after the run. -/
theorem arrR : (dats m 0 c).arrAt 12 (cfgs 0).N = outR m c := by
  refine (dats m 0 c).arrAt_eq_of_covers 12 _ (by decide +kernel) fun t hf y => ?_
  blk_simp
  rw [after0_12]
  refine outR_at m c ?_ ?_ <;> blk_simp [e0_12] <;> simp [Nat.mul_comm]

/-- The reshape after the region, of any contents. -/
theorem reshape_v7 (W : Valuation τ sig (Elt F)) {Y : S1152x14336.Idx → F .bf16} (h : W (Proc.devRef .tc main_v6_0) = Y) :
    StableHlo.after (List.flatten [hostOps1]) W (Proc.devRef .tc main_v7)
      = (shapeCast S3x384x14336 Y shapeCasts_S1152x14336_S3x384x14336 : S3x384x14336.Idx → F .bf16) := by
  subst h
  show StableHlo.after hostOps1 _ _ = _
  unfold hostOps1
  after_results_simp
  rfl

/-- The reshape of the second result. -/
theorem reshape_v8 (W : Valuation τ sig (Elt F)) {Y : S1152x4096.Idx → F .bf16} (h : W (Proc.devRef .tc main_v6_1) = Y) :
    StableHlo.after (List.flatten [hostOps1]) W (Proc.devRef .tc main_v8)
      = (shapeCast S3x384x4096 Y shapeCasts_S1152x4096_S3x384x4096 : S3x384x4096.Idx → F .bf16) := by
  subst h
  show StableHlo.after hostOps1 _ _ = _
  unfold hostOps1
  after_results_simp
  rfl

/-- The first result. -/
theorem out_v7 : Pipeline.afterTail₀ cfgs (dats m) 0 (V0 m) [hostOps1] c main_v7
    = (shapeCast S3x384x14336 (outY m c) shapeCasts_S1152x14336_S3x384x14336 : S3x384x14336.Idx → F .bf16) := by
  have h : Pipeline.withArrays (cfgs 0).spec c (V0 m c) (fun w => (dats m 0 c).arrAt w (cfgs 0).N) (Proc.devRef .tc main_v6_0) = outY m c :=
    ((dats m 0 c).withArrays_arrAt sharedIn0 (V0 m c) (A_eq m c) 11).trans (arrY m c)
  unfold Pipeline.afterTail₀
  exact reshape_v7 _ h

/-- The second result. -/
theorem out_v8 : Pipeline.afterTail₀ cfgs (dats m) 0 (V0 m) [hostOps1] c main_v8
    = (shapeCast S3x384x4096 (outR m c) shapeCasts_S1152x4096_S3x384x4096 : S3x384x4096.Idx → F .bf16) := by
  have h : Pipeline.withArrays (cfgs 0).spec c (V0 m c) (fun w => (dats m 0 c).arrAt w (cfgs 0).N) (Proc.devRef .tc main_v6_1) = outR m c :=
    ((dats m 0 c).withArrays_arrAt sharedIn0 (V0 m c) (A_eq m c) 12).trans (arrR m c)
  unfold Pipeline.afterTail₀
  exact reshape_v8 _ h

/-- The whole program ends with its two results in closed form. -/
theorem run_results : θ_run defs (onTc (τ := τ) (main (F := F))) ⟨m, fun _ => 0, ρ⟩ (fun r => ∀ c : Dev nD,
      r.2.mem ((c.tc : Thread nD τ).loc main_v7) = (shapeCast S3x384x14336 (outY m c) shapeCasts_S1152x14336_S3x384x14336 : S3x384x14336.Idx → F .bf16)
      ∧ r.2.mem ((c.tc : Thread nD τ).loc main_v8) = (shapeCast S3x384x4096 (outR m c) shapeCasts_S1152x4096_S3x384x4096 : S3x384x4096.Idx → F .bf16)) :=
  (θ_run defs _ _).mono (fun _ h c => ⟨((h.1 c).2 main_v7 (Pipeline.mem_restRefs_of main_v7 (by decide) (by decide))).trans (out_v7 m c),
    ((h.1 c).2 main_v8 (Pipeline.mem_restRefs_of main_v8 (by decide) (by decide))).trans (out_v8 m c)⟩) (run_main m ρ)

end Cert.KernelIdeal.Walk
-- ==== Proof.KHost.lean ====
/- What the kernel's blocks are cut from, in terms of the arguments: the host's reshapes, the transpose of the scales and
   the codebook's pairs read as words. -/
module

public import proofs.«01_k».proof.Proof.Pipe
public import Idealize.ShloMosaic.Lib.Pointwise
public import Idealize.ShloMosaic.Lib.BitcastConvert

@[expose] public section

noncomputable section

namespace Cert.KernelIdeal.Walk

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-- The activations. -/
abbrev mX : S3x384x4096.Idx → EReal := m ((c : Thread nD τ).loc main_arg0)
/-- The gain. -/
abbrev mG : S4096.Idx → EReal := m ((c : Thread nD τ).loc main_arg1)
/-- The signs. -/
abbrev mS : S4096.Idx → BitVec 8 := m ((c : Thread nD τ).loc main_arg2)
/-- The codebook. -/
abbrev mB : S256x2.Idx → BitVec 16 := m ((c : Thread nD τ).loc main_arg3)
/-- The codes. -/
abbrev mC : S14336x2048.Idx → BitVec 8 := m ((c : Thread nD τ).loc main_arg4)
/-- The scales. -/
abbrev mZ : S14336x4.Idx → EReal := m ((c : Thread nD τ).loc main_arg5)

/-- The activations as one array of rows. -/
theorem V_main_v3 : V m c main_v3 = (shapeCast S1152x4096 (mX m c) shapeCasts_S3x384x4096_S1152x4096 : S1152x4096.Idx → EReal) := by
  show StableHlo.after hostOps0 _ _ = _
  unfold hostOps0
  after_results_simp
  rfl

/-- The gain as one row. -/
theorem V_main_v4 : V m c main_v4 = (shapeCast S1x4096 (mG m c) shapeCasts_S4096_S1x4096 : S1x4096.Idx → EReal) := by
  show StableHlo.after hostOps0 _ _ = _
  unfold hostOps0
  after_results_simp
  rfl

/-- The signs as one row. -/
theorem V_main_v5 : V m c main_v5 = (shapeCast S1x4096 (mS m c) shapeCasts_S4096_S1x4096 : S1x4096.Idx → BitVec 8) := by
  show StableHlo.after hostOps0 _ _ = _
  unfold hostOps0
  after_results_simp
  rfl

/-- The scales transposed. -/
theorem V_main_v2 : V m c main_v2 = (transpose S4x14336 [1, 0] (mZ m c) transposes_S14336x4_S4x14336_1_0 : S4x14336.Idx → EReal) := by
  show StableHlo.after hostOps0 _ _ = _
  unfold hostOps0
  after_results_simp

/-- The codebook, the two elements of a pair in one word. -/
theorem V_main_v1 : V m c main_v1 = (shapeCast S2x128 (Host.bitcastConvertWiden S256 32 (mB m c) splits_S256_w32_S256x2_w16) shapeCasts_S256_S2x128 : S2x128.Idx → BitVec 32) := by
  show StableHlo.after hostOps0 _ _ = _
  unfold hostOps0
  after_results_simp
  rfl

/-- The table of the Hadamard matrix. -/
theorem V_main_cst : V m c main_cst = (fun i => Ideal.ofBits .bf16 (lit0 (S256x256.rowMajor i)) : S256x256.Idx → EReal) := by
  show StableHlo.after hostOps0 _ _ = _
  unfold hostOps0
  after_results_simp
  rfl

/-- The activations as the kernel reads them. -/
theorem aX_apply (b : Fin 3) (s : Fin 384) (k : Fin 4096) : (aX m c (384 * b.val + s.val) k.val : EReal) = mX m c (ix3 b s k) := by
  unfold aX
  refine (ext2_of (n0 := 1152) (n1 := 4096) _ _ _ (ix2 (n0 := 1152) (n1 := 4096) ⟨384 * b.val + s.val, by omega⟩ k) rfl rfl).trans ?_
  rw [V_main_v3]
  pointwise

/-- The gain as the kernel reads it. -/
theorem aG_apply (k : Fin 4096) : (aG m c 0 k.val : EReal) = mG m c (ix1 k) := by
  unfold aG
  refine (ext2_of (n0 := 1) (n1 := 4096) _ _ _ (ix2 (n0 := 1) (n1 := 4096) 0 k) rfl rfl).trans ?_
  rw [V_main_v4]
  pointwise

/-- The signs as the kernel reads them. -/
theorem aS_apply (k : Fin 4096) : (aS m c 0 k.val : BitVec 8) = mS m c (ix1 k) := by
  unfold aS
  refine (ext2_of (n0 := 1) (n1 := 4096) _ _ _ (ix2 (n0 := 1) (n1 := 4096) 0 k) rfl rfl).trans ?_
  rw [V_main_v5]
  pointwise

/-- The codes as the kernel reads them. -/
theorem aC_apply (n : Fin 14336) (k : Fin 2048) : (aC m c n.val k.val : BitVec 8) = mC m c (ix2 n k) := by
  unfold aC
  refine (ext2_of (n0 := 14336) (n1 := 2048) _ _ _ (ix2 (n0 := 14336) (n1 := 2048) n k) rfl rfl).trans ?_
  rw [V_main_arg4]

/-- The scales as the kernel reads them, transposed. -/
theorem aZ_apply (g : Fin 4) (n : Fin 14336) : (aZ m c g.val n.val : EReal) = mZ m c (ix2 n g) := by
  unfold aZ
  refine (ext2_of (n0 := 4) (n1 := 14336) _ _ _ (ix2 (n0 := 4) (n1 := 14336) g n) rfl rfl).trans ?_
  rw [V_main_v2]
  pointwise

/-- The codebook as the kernel reads it: the two elements of a pair in one word. -/
theorem aL_apply (k : Fin 256) : (aL m c (k.val / 128) (k.val % 128) : BitVec 32) = mB m c (ix2 k 1) ++ mB m c (ix2 k 0) := by
  unfold aL
  refine (ext2_of (n0 := 2) (n1 := 128) _ _ _ (ix2 (n0 := 2) (n1 := 128) ⟨k.val / 128, by omega⟩ ⟨k.val % 128, by omega⟩) rfl rfl).trans ?_
  rw [V_main_v1]
  pointwise
  have e (p : Fin 2) : splits_S256_w32_S256x2_w16.snoc (ix1 k) p = (ix2 k p : S256x2.Idx) := by
    funext a
    apply Fin.ext
    match a with
    | ⟨0, _⟩ => rfl
    | ⟨1, _⟩ => rfl
  exact congr (congrArg _ (congrArg _ (e 1))) (congrArg _ (e 0))

/-- The table of the Hadamard matrix as the kernel reads it. -/
theorem aH_apply (r b : Fin 256) : (aH m c r.val b.val : EReal) = Ideal.ofBits .bf16 (lit0 ⟨256 * r.val + b.val, by omega⟩) := by
  unfold aH
  refine (ext2_of (n0 := 256) (n1 := 256) _ _ _ (ix2 (n0 := 256) (n1 := 256) r b) rfl rfl).trans ?_
  rw [V_main_cst]
  have e : S256x256.rowMajor (ix2 (n0 := 256) (n1 := 256) r b) = ⟨256 * r.val + b.val, by show _ < 65536; omega⟩ := by
    apply Fin.ext
    rw [show (S256x256.rowMajor (ix2 (n0 := 256) (n1 := 256) r b)).val = _ from Shape.rowMajor_val_two _]
    show r.val * 256 + b.val = 256 * r.val + b.val
    omega
  exact congrArg (fun i => Ideal.ofBits .bf16 (lit0 i)) e

end Cert.KernelIdeal.Walk
-- ==== Proof.KDec.lean ====
/- The decoded weights, element by element: the codebook's element times the group's scale. -/
module

public import proofs.«01_k».proof.Proof.Funs
public import Idealize.ShloMosaic.Lib.Pointwise

@[expose] public section

noncomputable section

namespace Cert.KernelIdeal.Walk

open Cert.KernelIdeal Cert.KernelIdeal.Gen
open Idealize.ShloMosaic Idealize.ShloMosaic.TcCoe
open Idealize.SL.Sem

/-- A group's scale in a tile. -/
theorem gsT_apply (sc : ℕ → ℕ → EReal) (k g : ℕ) (hg : g < 4) (r : Fin 32) (l : Fin 128) : gsT (F := Ideal) sc k g (ix2 r l) = sc g (32 * k + r.val) := by
  match g, hg with
  | 0, _ => pointwise [gsT, sclT, scT, blk2]
  | 1, _ => pointwise [gsT, sclT, scT, blk2]
  | 2, _ => pointwise [gsT, sclT, scT, blk2]
  | 3, _ => pointwise [gsT, sclT, scT, blk2]

/-- The upper half of the codes, and the low seven bits. -/
theorem code_words : ∀ n : Fin 256, IntOp.cmpi CmpIPredicate.sge ((BitVec.ofFin n : BitVec 8).setWidth 32) 128#32 = (if n.val / 128 = 0 then 0#1 else 1#1)
    ∧ (IntOp.andi ((BitVec.ofFin n : BitVec 8).setWidth 32) 127#32).toNat % 128 = n.val % 128 := by decide +kernel

/-- The pair of a code is its entry of the table. -/
theorem pairT_apply (lut : ℕ → ℕ → BitVec 32) (codes : ℕ → ℕ → BitVec 8) (a c : ℕ) (r : Fin 32) (l : Fin 128) :
    pairT lut (codeT codes a c) (ix2 r l)
      = lut ((codes (32 * a + r.val) (128 * c + l.val)).toNat / 128) ((codes (32 * a + r.val) (128 * c + l.val)).toNat % 128) := by
  pointwise [pairT, idxT, lutT, codeT, blk2]
  obtain ⟨n⟩ := codes (32 * a + r.val) (128 * c + l.val)
  obtain ⟨h1, h2⟩ := code_words n
  rw [h1, h2]
  show _ = lut (n.val / 128) (n.val % 128)
  by_cases h : n.val / 128 = 0
  · rw [if_pos h, h]; rfl
  · have : n.val / 128 = 1 := by have := n.isLt; simp at this; omega
    rw [if_neg h, this]; rfl

/-- One half of a word, read as a float. -/
def halfW (v : BitVec 32) (e : ℕ) : EReal := Ideal.ofBits .bf16 (v.extractLsb' (16 * e) 16)

/-- One element of a pair in a tile. -/
theorem halfT_apply (v : IVec S32x128 32) (e : ℕ) (he : e < 2) (i : S32x128.Idx) : halfT (F := Ideal) v e i = halfW (v i) e := by
  match e, he with
  | 0, _ =>
    show Ideal.ofBits .bf16 ((v i).setWidth 16) = _
    unfold halfW
    congr 1
  | 1, _ =>
    show Ideal.ofBits .bf16 ((shrsi v (broadcast S32x128 16#32) i).setWidth 16) = _
    unfold halfW
    congr 1
    have : shrsi v (broadcast S32x128 16#32) i = (v i).sshiftRight 16 := by
      pointwise
      rfl
    rw [this]
    apply BitVec.eq_of_getLsbD_eq
    intro k hk
    simp [BitVec.getLsbD_sshiftRight, hk]
    rw [if_pos (show 16 + k < 32 by omega)]
    simp only [show ¬ 32 ≤ k by omega, decide_false, Bool.not_false, Bool.true_and]

/-- An element of the decoded weights. -/
theorem gD_decT (lut : ℕ → ℕ → BitVec 32) (codes : ℕ → ℕ → BitVec 8) (sc : ℕ → ℕ → EReal) (a b : ℕ) (hb : b < 4096) :
    (gD (F := Ideal) (decT (F := Ideal) lut codes sc) a b : EReal)
      = halfW (lut ((codes a (128 * (b / 256) + b % 128)).toNat / 128) ((codes a (128 * (b / 256) + b % 128)).toNat % 128)) (b / 128 % 2)
        * sc (b / 1024) a := by
  unfold gD
  have e1 : (32 * (a / 32) + b / 128) / 32 = a / 32 := by omega
  have e2 : (32 * (a / 32) + b / 128) % 32 / 2 = b / 256 := by omega
  have e3 : (32 * (a / 32) + b / 128) % 2 = b / 128 % 2 := by omega
  have e4 : (32 * (a / 32) + b / 128) % 32 / 8 = b / 1024 := by omega
  have e5 : 32 * (a / 32) + a % 32 = a := by omega
  show shapeCast S32x128 (mulf _ _) _ (ix2 (n0 := 32) (n1 := 128) _ _) = _
  pointwise
  rw [e1, e2, e3, e4]
  rw [halfT_apply _ _ (by omega), pairT_apply, gsT_apply _ _ _ (by omega)]
  show halfW (lut ((codes (32 * (a / 32) + a % 32) _).toNat / 128) _) _ * sc _ (32 * (a / 32) + a % 32) = _
  rw [e5]

end Cert.KernelIdeal.Walk
-- ==== Proof.KRot.lean ====
/- The rotated activations, element by element: a row normalized, multiplied by the gain and the signs, times the Hadamard
   matrix of each block, and the four blocks of a group combined. -/
module

public import proofs.«01_k».proof.Proof.Funs
public import Idealize.ShloMosaic.Lib.Pointwise

@[expose] public section

noncomputable section

namespace Cert.KernelIdeal.Walk

open Cert.KernelIdeal Cert.KernelIdeal.Gen
open Idealize.ShloMosaic Idealize.ShloMosaic.TcCoe
open Idealize.SL.Sem

/-- The reciprocal root mean square of a row. -/
def rinv (x : ℕ → EReal) : EReal :=
  Ideal.rsqrt (Ideal.div (∑ k : Fin 4096, x k.val * x k.val) (Ideal.ofBits .f32 0x45800000#32) + Ideal.ofBits .f32 0x358637BD#32)

/-- A row normalized and multiplied by the gain and the signs. -/
def xsE (x gain sg : ℕ → EReal) (k : ℕ) : EReal := x k * rinv x * gain k * sg k

/-- The reciprocal root mean square of a row of a tile. -/
theorem invT_apply (x : ℕ → ℕ → EReal) (t : ℕ) (r : Fin 128) (l : Fin 1) : invT (F := Ideal) x t (ix2 r l) = rinv (x (128 * t + r.val)) := by
  pointwise [invT, blk2, rinv]

/-- An entry of a tile normalized, times gain and sign. -/
theorem xsT_apply (x gain : ℕ → ℕ → EReal) (sign : ℕ → ℕ → BitVec 8) (t b : ℕ) (r : Fin 128) (l : Fin 256) :
    xsT (F := Ideal) x gain sign t b (ix2 r l) = xsE (x (128 * t + r.val)) (gain 0) (fun k => (((sign 0 k).toInt : ℝ) : EReal)) (256 * b + l.val) := by
  pointwise [xsT, blk2, xsE]
  rw [invT_apply]
  rfl

/-- An entry of its product with the Hadamard matrix of size 256. -/
theorem hxT_apply (x gain : ℕ → ℕ → EReal) (sign : ℕ → ℕ → BitVec 8) (had : ℕ → ℕ → EReal) (t b : ℕ) (r : Fin 128) (l : Fin 256) :
    hxT (F := Ideal) x gain sign had t b (ix2 r l)
      = ∑ k : Fin 256, xsE (x (128 * t + r.val)) (gain 0) (fun k => (((sign 0 k).toInt : ℝ) : EReal)) (256 * b + k.val) * had k.val l.val := by
  pointwise [hxT, blk2]
  simp only [xsT_apply]

/-- One product of a block. -/
theorem mmB_apply (X : ℕ → ℕ → ℕ → EReal) (W : ℕ → ℕ → EReal) (r b : ℕ) (i : Fin 384) (j : Fin 512) :
    mmB (F := Ideal) X W r b (ix2 i j) = ∑ d : Fin 256, X b (384 * r + i.val) d.val * W j.val (256 * b + d.val) := by
  pointwise [mmB, blk2, blk3]

/-- The products of the first blocks added. -/
theorem mmAcc_apply (X : ℕ → ℕ → ℕ → EReal) (W : ℕ → ℕ → EReal) (r n : ℕ) (i : Fin 384) (j : Fin 512) :
    mmAcc (F := Ideal) X W r n (ix2 i j) = ∑ b : Fin (n + 1), ∑ d : Fin 256, X b.val (384 * r + i.val) d.val * W j.val (256 * b.val + d.val) := by
  induction n with
  | zero =>
    rw [mmAcc, mmB_apply]
    simp
  | succ n ih =>
    rw [Fin.sum_univ_castSucc]
    show mmAcc (F := Ideal) X W r n (ix2 i j) + mmB (F := Ideal) X W r (n + 1) (ix2 i j) = _
    rw [ih, mmB_apply]
    rfl

/-- An element of the products. -/
theorem mmT_apply (X : ℕ → ℕ → ℕ → EReal) (W W' : ℕ → ℕ → EReal) (n : ℕ) (i : Fin 384) (j : Fin 512) :
    mmT (F := Ideal) X W W' n (ix2 i j)
      = ∑ b : Fin 16, ∑ d : Fin 256, X b.val (384 * (n % 3) + i.val) d.val * (if n / 3 = 0 then W else W') j.val (256 * b.val + d.val) := by
  have h : (match n / 3 with | 0 => W | _ => W') = if n / 3 = 0 then W else W' := by
    rcases n / 3 with _ | k <;> simp
  show mmAcc (F := Ideal) X _ (n % 3) 15 (ix2 i j) = _
  rw [mmAcc_apply]
  exact congrArg (fun w : ℕ → ℕ → EReal => ∑ b : Fin 16, ∑ d : Fin 256, X b.val (384 * (n % 3) + i.val) d.val * w j.val (256 * b.val + d.val)) h

/-- The lane that a gather reads, and whether a lane is even. -/
theorem lane_words : ∀ k : Fin 2, ∀ j : Fin 128,
    (IntOp.addi (IntOp.shrsi ArithUnit.vector (BitVec.ofNat 32 j.val) 1#32) (BitVec.ofNat 32 (64 * k.val))).toNat % 128 = j.val / 2 + 64 * k.val
    ∧ IntOp.cmpi CmpIPredicate.eq (IntOp.andi (BitVec.ofNat 32 j.val) 1#32) 0#32 = if j.val % 2 = 0 then 1#1 else 0#1 := by decide +kernel

/-- An element of the rotated result: the even columns stand in the first half of a block, the odd ones in the second. -/
theorem emitT_apply (X : ℕ → ℕ → ℕ → EReal) (b₀ n : ℕ) (i j : Fin 128) :
    emitT (F := Ideal) X b₀ n (ix2 i j) = X (b₀ + n / 18) (128 * (n % 18 / 2) + i.val) (128 * (j.val % 2) + (j.val / 2 + 64 * (n % 2))) := by
  pointwise [emitT, srcT, emitIdxT, blk3, halfLaneT, laneT, evenT]
  obtain ⟨h1, h2⟩ := lane_words ⟨n % 2, Nat.mod_lt _ (by decide)⟩ j
  rw [show (IntOp.addi (IntOp.shrsi ArithUnit.vector (BitVec.ofNat 32 j.val) 1#32) (BitVec.ofNat 32 (64 * (n % 2)))).toNat % 128 = _ from h1, h2]
  rcases Nat.mod_two_eq_zero_or_one j.val with h | h <;> simp [h, Scalar.select]

/-- The four combinations of a group's four blocks, as numbers. -/
def combE (a b c d : EReal) : ℕ → EReal
  | 0 => (a + b) + (c + d)
  | 1 => (a - b) + (c - d)
  | 2 => (a + b) - (c + d)
  | _ => (a - b) - (c - d)

/-- The combinations, element by element. -/
theorem combT_apply (a b c d : FVec Ideal S128x256 .f32) (k : ℕ) (i : S128x256.Idx) : combT a b c d k i = combE (a i) (b i) (c i) (d i) k := by
  rcases k with _ | _ | _ | k <;> rfl

/-- An element of the rotated activations of the kernel. -/
theorem gX_xpB (x gain : ℕ → ℕ → EReal) (sign : ℕ → ℕ → BitVec 8) (had : ℕ → ℕ → EReal) (b m d : ℕ) (hb : b < 16) (hd : d < 256) :
    (gX (F := Ideal) (fun n => xpB (F := Ideal) x gain sign had (n / 16) (n % 16)) b m d : EReal)
      = combE (∑ k : Fin 256, xsE (x m) (gain 0) (fun k => (((sign 0 k).toInt : ℝ) : EReal)) (256 * (4 * (b / 4)) + k.val) * had k.val d)
          (∑ k : Fin 256, xsE (x m) (gain 0) (fun k => (((sign 0 k).toInt : ℝ) : EReal)) (256 * (4 * (b / 4) + 1) + k.val) * had k.val d)
          (∑ k : Fin 256, xsE (x m) (gain 0) (fun k => (((sign 0 k).toInt : ℝ) : EReal)) (256 * (4 * (b / 4) + 2) + k.val) * had k.val d)
          (∑ k : Fin 256, xsE (x m) (gain 0) (fun k => (((sign 0 k).toInt : ℝ) : EReal)) (256 * (4 * (b / 4) + 3) + k.val) * had k.val d) (b % 4)
        * Ideal.ofBits .f32 0x3D000000#32 := by
  have e1 : (16 * (m / 128) + b) / 16 = m / 128 := by omega
  have e2 : (16 * (m / 128) + b) % 16 = b := by omega
  have e3 : 128 * (m / 128) + m % 128 = m := by omega
  have e4 : d % 256 = d := by omega
  show (xpB (F := Ideal) x gain sign had ((16 * (m / 128) + b) / 16) ((16 * (m / 128) + b) % 16)
    (ix2 (n0 := 128) (n1 := 256) ⟨m % 128, Nat.mod_lt _ (by decide)⟩ ⟨d % 256, Nat.mod_lt _ (by decide)⟩) : EReal) = _
  rw [e1, e2]
  show (combT (F := Ideal) _ _ _ _ _ _ : EReal) * _ = _
  rw [combT_apply]
  simp only [hxT_apply, e3, e4]
  rfl

end Cert.KernelIdeal.Walk
-- ==== Proof.Had.Sign.lean ====
/- The signs of a Hadamard matrix: minus one where a row's number and a column's have an odd number of common ones. -/
module

public import Mathlib.Data.EReal.Basic

@[expose] public section

namespace Cert.Math

/-- The parity of the number of ones among the ten low bits of `n`. -/
def par (n : ℕ) : ℕ :=
  (n % 2 + n / 2 % 2 + n / 4 % 2 + n / 8 % 2 + n / 16 % 2 + n / 32 % 2 + n / 64 % 2 + n / 128 % 2 + n / 256 % 2 + n / 512 % 2) % 2

/-- The column of the Hadamard matrix that stands at column `d`: the even columns first, then the odd ones. -/
def pcol (d : ℕ) : ℕ := 2 * (d % 128) + d / 128

/-- The parity of a number is that of its high and its low bits together. -/
theorem par_add : ∀ a : Fin 4, ∀ b : Fin 256, par (256 * a.val + b.val) = (par a.val + par b.val) % 2 := by decide +kernel

/-- The entry of a Hadamard matrix. -/
noncomputable def hd (i k : ℕ) : ℝ := if par (i &&& k) = 0 then 1 else -1

/-- The matrix of size 1024 is the product of the one of size 4 and the one of size 256. -/
theorem hd_mul (q p : Fin 4) (k j : Fin 256) : hd (256 * q.val + k.val) (256 * p.val + j.val) = hd q.val p.val * hd k.val j.val := by
  have hk := k.isLt
  have hj := j.isLt
  have e : (256 * q.val + k.val) &&& (256 * p.val + j.val) = 256 * (q.val &&& p.val) + (k.val &&& j.val) := by
    have h1 : ((256 * q.val + k.val) &&& (256 * p.val + j.val)) / 256 = q.val &&& p.val := by
      have := Nat.and_div_two_pow (a := 256 * q.val + k.val) (b := 256 * p.val + j.val) (n := 8)
      rw [show (2 : ℕ) ^ 8 = 256 from rfl] at this
      rw [this, show (256 * q.val + k.val) / 256 = q.val by omega, show (256 * p.val + j.val) / 256 = p.val by omega]
    have h2 : ((256 * q.val + k.val) &&& (256 * p.val + j.val)) % 256 = k.val &&& j.val := by
      have := Nat.and_mod_two_pow (a := 256 * q.val + k.val) (b := 256 * p.val + j.val) (n := 8)
      rw [show (2 : ℕ) ^ 8 = 256 from rfl] at this
      rw [this, show (256 * q.val + k.val) % 256 = k.val by omega, show (256 * p.val + j.val) % 256 = j.val by omega]
    omega
  have l1 : q.val &&& p.val < 4 := lt_of_le_of_lt Nat.and_le_left q.isLt
  have l2 : k.val &&& j.val < 256 := lt_of_le_of_lt Nat.and_le_left hk
  have hp : par (256 * (q.val &&& p.val) + (k.val &&& j.val)) = (par (q.val &&& p.val) + par (k.val &&& j.val)) % 2 :=
    par_add ⟨_, l1⟩ ⟨_, l2⟩
  have r1 : par (q.val &&& p.val) < 2 := Nat.mod_lt _ (by decide)
  have r2 : par (k.val &&& j.val) < 2 := Nat.mod_lt _ (by decide)
  unfold hd
  rw [e, hp]
  rcases (by omega : par (q.val &&& p.val) = 0 ∨ par (q.val &&& p.val) = 1) with h | h <;>
    rcases (by omega : par (k.val &&& j.val) = 0 ∨ par (k.val &&& j.val) = 1) with h' | h' <;> simp [h, h']

end Cert.Math
-- ==== Proof.Had.Sum.lean ====
/- Sums cut into blocks, and the Hadamard matrix of size 1024 applied as one of size 4 after one of size 256. -/
module

public import Mathlib.Data.EReal.Operations
public import Mathlib.Algebra.BigOperators.Fin
public import Mathlib.Tactic.Ring
public import Mathlib.Tactic.FinCases
public import proofs.«01_k».proof.Proof.Had.Sign

@[expose] public section

namespace Cert.Math

/-- A sum over `m n` numbers, `n` at a time. -/
theorem sum_split {M : Type*} [AddCommMonoid M] (m n : ℕ) (f : ℕ → M) :
    ∑ i : Fin (m * n), f i.val = ∑ a : Fin m, ∑ b : Fin n, f (n * a.val + b.val) := by
  rw [← Fintype.sum_prod_type' (fun (a : Fin m) (b : Fin n) => f (n * a.val + b.val))]
  refine (Fintype.sum_equiv finProdFinEquiv _ _ fun p => ?_).symm
  show f _ = f (p.2.val + n * p.1.val)
  rw [Nat.add_comm]

/-- A sum of reals, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One block's part of the rotation: 256 numbers times column `j` of the matrix of size 256. -/
noncomputable def part (x : ℕ → ℝ) (b j : ℕ) : ℝ := ∑ k : Fin 256, x (256 * b + k.val) * hd k.val j

/-- The rotation of a group by the matrix of size 1024, by the parts of its four blocks. -/
theorem rot_split (x : ℕ → ℝ) (g : ℕ) (p : Fin 4) (j : Fin 256) :
    ∑ i : Fin 1024, x (1024 * g + i.val) * hd i.val (256 * p.val + j.val)
      = ∑ q : Fin 4, hd q.val p.val * part x (4 * g + q.val) j.val := by
  rw [show (∑ i : Fin 1024, x (1024 * g + i.val) * hd i.val (256 * p.val + j.val)) = _ from
    sum_split 4 256 fun i => x (1024 * g + i) * hd i (256 * p.val + j.val)]
  refine Finset.sum_congr rfl fun q _ => ?_
  rw [part, Finset.mul_sum]
  refine Finset.sum_congr rfl fun k _ => ?_
  rw [hd_mul, show 1024 * g + (256 * q.val + k.val) = 256 * (4 * g + q.val) + k.val by ring]
  ring

/-- The parities that the four combinations need. -/
theorem par_small : ∀ q p : Fin 4, par (q.val &&& p.val) = if q.val &&& p.val = 0 ∨ q.val &&& p.val = 3 then 0 else 1 := by decide +kernel

/-- The matrix of size 4, written out. -/
theorem hd_four (a b c d : ℝ) (p : Fin 4) :
    hd 0 p.val * a + hd 1 p.val * b + hd 2 p.val * c + hd 3 p.val * d
      = match p with
        | 0 => (a + b) + (c + d)
        | 1 => (a - b) + (c - d)
        | 2 => (a + b) - (c + d)
        | 3 => (a - b) - (c - d) := by
  have h (q p : Fin 4) : hd q.val p.val = if q.val &&& p.val = 0 ∨ q.val &&& p.val = 3 then 1 else -1 := by
    unfold hd
    rw [par_small]
    split_ifs <;> simp_all
  rw [show hd 0 p.val = _ from h 0 p, show hd 1 p.val = _ from h 1 p, show hd 2 p.val = _ from h 2 p, show hd 3 p.val = _ from h 3 p]
  fin_cases p <;> simp <;> ring

end Cert.Math
-- ==== Proof.Rot.lean ====
/- The kernel's rotated activations are the reference's, with the columns of every block of 256 taken even ones first. -/
module

public import proofs.«01_k».proof.Proof.KRot
public import proofs.«01_k».proof.Proof.Had.Sum

@[expose] public section

noncomputable section

namespace Cert.KernelIdeal.Walk

open Idealize.ShloMosaic Cert.Math

/-- Column `k` of a rotated row: its group's 1024 entries times a column of the Hadamard matrix, scaled. -/
def rotE (xs : ℕ → EReal) (k : ℕ) : EReal :=
  (∑ i : Fin 1024, xs (1024 * (k / 1024) + i.val) * ((hd i.val (k % 1024) : ℝ) : EReal)) * Ideal.ofBits .f32 0x3D000000#32

/-- A permuted column stays in its block. -/
theorem pcol_lt {d : ℕ} (h : d < 256) : pcol d < 256 := by unfold pcol; omega

/-- The combination of the four blocks' parts is the group's rotation. -/
theorem comb_rot (xs : ℕ → EReal) (hxs : ∀ k < 4096, ∃ r : ℝ, xs k = (r : EReal)) (had : ℕ → ℕ → EReal)
    (hhad : ∀ k < 256, ∀ d < 256, had k d = ((hd k (pcol d) : ℝ) : EReal)) (b d : ℕ) (hb : b < 16) (hd' : d < 256) :
    combE (∑ k : Fin 256, xs (256 * (4 * (b / 4)) + k.val) * had k.val d)
        (∑ k : Fin 256, xs (256 * (4 * (b / 4) + 1) + k.val) * had k.val d)
        (∑ k : Fin 256, xs (256 * (4 * (b / 4) + 2) + k.val) * had k.val d)
        (∑ k : Fin 256, xs (256 * (4 * (b / 4) + 3) + k.val) * had k.val d) (b % 4)
      = ∑ i : Fin 1024, xs (1024 * (b / 4) + i.val) * ((hd i.val (256 * (b % 4) + pcol d) : ℝ) : EReal) := by
  have hx (k : ℕ) (hk : k < 4096) : xs k = (((xs k).toReal : ℝ) : EReal) := by
    obtain ⟨r, hr⟩ := hxs k hk
    rw [hr, EReal.toReal_coe]
  set xr : ℕ → ℝ := fun k => (xs k).toReal with hxr
  have hp (B : ℕ) (hB : B < 16) : (∑ k : Fin 256, xs (256 * B + k.val) * had k.val d) = ((part xr B (pcol d) : ℝ) : EReal) := by
    rw [part, coe_sum]
    refine Finset.sum_congr rfl fun k _ => ?_
    have := k.isLt
    rw [hx _ (by omega), hhad _ k.isLt _ hd', EReal.coe_mul]
  have hr : (∑ i : Fin 1024, xs (1024 * (b / 4) + i.val) * ((hd i.val (256 * (b % 4) + pcol d) : ℝ) : EReal))
      = ((∑ i : Fin 1024, xr (1024 * (b / 4) + i.val) * hd i.val (256 * (b % 4) + pcol d) : ℝ) : EReal) := by
    rw [coe_sum]
    refine Finset.sum_congr rfl fun i _ => ?_
    have := i.isLt
    rw [hx _ (by omega), EReal.coe_mul]
  rw [hp _ (by omega), hp _ (by omega), hp _ (by omega), hp _ (by omega), hr,
    rot_split xr (b / 4) ⟨b % 4, by omega⟩ ⟨pcol d, pcol_lt hd'⟩, Fin.sum_univ_four]
  show _ = ((hd 0 _ * _ + hd 1 _ * _ + hd 2 _ * _ + hd 3 _ * _ : ℝ) : EReal)
  rw [hd_four]
  generalize hq : (⟨b % 4, by omega⟩ : Fin 4) = q
  have hq' : b % 4 = q.val := by rw [← hq]
  rw [hq']
  fin_cases q <;> simp only [combE, EReal.coe_add, EReal.coe_sub] <;> rfl

end Cert.KernelIdeal.Walk
-- ==== Proof.Spec.lean ====
/- The two results as one formula of the arguments, element by element: what both programs compute. -/
module

public import proofs.«01_k».proof.Proof.Rot

@[expose] public section

noncomputable section

namespace Cert.KernelIdeal.Walk

open Cert.KernelIdeal
open Idealize.ShloMosaic

/-- A number below 4096 as a column. -/
abbrev col (k : ℕ) : Fin 4096 := ⟨k % 4096, Nat.mod_lt _ (by decide)⟩

/-- An entry of a row normalized, multiplied by the gain and by the signs. -/
def specXs (X : S3x384x4096.Idx → EReal) (G : S4096.Idx → EReal) (S : S4096.Idx → BitVec 8) (b : Fin 3) (s : Fin 384) : ℕ → EReal :=
  xsE (fun k => X (ix3 b s (col k))) (fun k => G (ix1 (col k))) (fun k => (((S (ix1 (col k))).toInt : ℝ) : EReal))

/-- An entry of the rotated activations. -/
def specRot (X : S3x384x4096.Idx → EReal) (G : S4096.Idx → EReal) (S : S4096.Idx → BitVec 8) (b : Fin 3) (s : Fin 384) (k : ℕ) : EReal :=
  rotE (specXs X G S b s) k

/-- The code that stands for column `k` of a row of the weights. -/
def codeOf (C : S14336x2048.Idx → BitVec 8) (n : Fin 14336) (k : ℕ) : Fin 256 :=
  ⟨(C (ix2 n ⟨k / 2 % 2048, Nat.mod_lt _ (by decide)⟩)).toNat, (C (ix2 n ⟨k / 2 % 2048, Nat.mod_lt _ (by decide)⟩)).isLt⟩

/-- An entry of the weights: an element of the code's pair times the group's scale. -/
def specW (B : S256x2.Idx → BitVec 16) (C : S14336x2048.Idx → BitVec 8) (Z : S14336x4.Idx → EReal) (n : Fin 14336) (k : ℕ) : EReal :=
  Ideal.ofBits .bf16 (B (ix2 (codeOf C n k) ⟨k % 2, Nat.mod_lt _ (by decide)⟩)) * Z (ix2 n ⟨k / 1024 % 4, Nat.mod_lt _ (by decide)⟩)

/-- An entry of the product. -/
def specY (X : S3x384x4096.Idx → EReal) (G : S4096.Idx → EReal) (S : S4096.Idx → BitVec 8) (B : S256x2.Idx → BitVec 16)
    (C : S14336x2048.Idx → BitVec 8) (Z : S14336x4.Idx → EReal) (b : Fin 3) (s : Fin 384) (n : Fin 14336) : EReal :=
  ∑ k : Fin 4096, specRot X G S b s k.val * specW B C Z n k.val

/-- A sum over all columns by blocks of 256 with the columns of every block taken even ones first. -/
theorem sum_pcol (f : ℕ → EReal) : ∑ b : Fin 16, ∑ d : Fin 256, f (256 * b.val + Cert.Math.pcol d.val) = ∑ k : Fin 4096, f k.val := by
  rw [show (∑ k : Fin 4096, f k.val) = _ from Cert.Math.sum_split 16 256 f]
  refine Finset.sum_congr rfl fun b _ => ?_
  let p : Fin 256 → Fin 256 := fun d => ⟨Cert.Math.pcol d.val, pcol_lt d.isLt⟩
  have hp : Function.Bijective p := by
    rw [← Finite.injective_iff_bijective]
    intro x y h
    have h := congrArg Fin.val h
    have hx := x.isLt
    have hy := y.isLt
    simp only [p, Cert.Math.pcol] at h
    exact Fin.ext (by omega)
  exact Fintype.sum_bijective p hp _ _ fun d => rfl

/-- A sum over all columns by groups, pairs and the two elements of a pair. -/
theorem sum_gjp (f : ℕ → EReal) : ∑ g : Fin 4, ∑ j : Fin 512, ∑ p : Fin 2, f (1024 * g.val + (2 * j.val + p.val)) = ∑ k : Fin 4096, f k.val := by
  rw [show (∑ k : Fin 4096, f k.val) = _ from Cert.Math.sum_split 4 1024 f]
  refine Finset.sum_congr rfl fun g _ => ?_
  exact (Cert.Math.sum_split 512 2 fun i => f (1024 * g.val + i)).symm

end Cert.KernelIdeal.Walk
-- ==== Proof.Finite.lean ====
/- With a finite gain every entry of a normalized row is a real number: a row with an infinite entry has the reciprocal root
   mean square zero, and every other row's is a positive real. -/
module

public import proofs.«01_k».proof.Proof.KRot
public import Idealize.ShloMosaic.Lib.IdealHost

@[expose] public section

noncomputable section

namespace Cert.KernelIdeal.Walk

open Idealize.ShloMosaic

/-- The number of columns is a positive real. -/
theorem count_pos : ∃ r : ℝ, 0 < r ∧ Ideal.ofBits .f32 0x45800000#32 = (r : EReal) := by
  refine ⟨4096, by norm_num, ?_⟩
  simp [Ideal.ofBits, Ideal.ieee, -EReal.coe_mul]; norm_num

/-- The small constant is a positive real. -/
theorem eps_pos : ∃ r : ℝ, 0 < r ∧ Ideal.ofBits .f32 0x358637BD#32 = (r : EReal) := by
  refine ⟨8796093 * 2 ^ (-43 : ℤ), by positivity, ?_⟩
  simp [Ideal.ofBits, Ideal.ieee, -EReal.coe_mul]

/-- A square is not negative. -/
theorem sq_nonneg (x : EReal) : 0 ≤ x * x := by
  induction x with
  | bot => simp
  | top => simp
  | coe r => rw [← EReal.coe_mul]; exact_mod_cast mul_self_nonneg r

/-- Either the reciprocal root mean square of a row is zero, or it is a real and so is every entry of the row. -/
theorem rinv_cases (x : ℕ → EReal) : rinv x = 0 ∨ (∃ r : ℝ, rinv x = (r : EReal)) ∧ ∀ k < 4096, ∃ r : ℝ, x k = (r : EReal) := by
  obtain ⟨n, hn, en⟩ := count_pos
  obtain ⟨e, he, ee⟩ := eps_pos
  have hn0 : (n : EReal) ≠ 0 := by exact_mod_cast hn.ne'
  unfold rinv
  rw [en, ee]
  unfold Ideal.div
  rw [if_neg hn0, ← EReal.coe_inv]
  have hS : 0 ≤ ∑ k : Fin 4096, x k.val * x k.val := Finset.sum_nonneg fun k _ => sq_nonneg _
  have hle (k : Fin 4096) : x k.val * x k.val ≤ ∑ k : Fin 4096, x k.val * x k.val :=
    Finset.single_le_sum (f := fun k : Fin 4096 => x k.val * x k.val) (fun k _ => sq_nonneg _) (Finset.mem_univ k)
  generalize (∑ k : Fin 4096, x k.val * x k.val) = S at hS hle
  induction S with
  | bot => simp at hS
  | top =>
    left
    rw [EReal.top_mul_coe_of_pos (inv_pos.mpr hn), EReal.top_add_coe]
    rfl
  | coe s =>
    right
    have hs : 0 ≤ s := by exact_mod_cast hS
    constructor
    · rw [← EReal.coe_mul, ← EReal.coe_add, Ideal.rsqrt_coe]
      have : 0 < s * n⁻¹ + e := by positivity
      rw [if_neg (not_lt.mpr this.le), if_neg this.ne']
      exact ⟨_, rfl⟩
    · intro k hk
      have h := hle ⟨k, hk⟩
      show ∃ r : ℝ, x k = (r : EReal)
      change x k * x k ≤ _ at h
      generalize x k = y at h
      induction y with
      | bot => simp at h
      | top => simp at h
      | coe r => exact ⟨r, rfl⟩

/-- Every entry of a normalized row is a real. -/
theorem xsE_real (x gain sg : ℕ → EReal) (k : ℕ) (hk : k < 4096) (hg : ∃ r : ℝ, gain k = (r : EReal)) (hs : ∃ r : ℝ, sg k = (r : EReal)) :
    ∃ r : ℝ, xsE x gain sg k = (r : EReal) := by
  obtain ⟨g, hg⟩ := hg
  obtain ⟨s, hs⟩ := hs
  unfold xsE
  rw [hg, hs]
  rcases rinv_cases x with h | ⟨⟨r, hr⟩, hx⟩
  · rw [h, mul_zero, zero_mul, zero_mul]; exact ⟨0, rfl⟩
  · obtain ⟨y, hy⟩ := hx k hk
    rw [hr, hy]
    exact ⟨y * r * g * s, by push_cast; rfl⟩

end Cert.KernelIdeal.Walk
-- ==== Proof.Had.TableA.lean ====
/- The kernel's table of the 256 × 256 Hadamard matrix, checked entry by entry: the first half of its rows. -/
module

public import proofs.«01_k».proof.KernelIdeal
public import proofs.«01_k».proof.Proof.Had.Sign

@[expose] public section

namespace Cert.Math

/-- Row `r` of the table holds the pattern of one or of minus one by the parity. -/
abbrev RowA (r : Fin 256) : Prop := ∀ b : Fin 256, Cert.KernelIdeal.lit0 ⟨256 * r.val + b.val, by omega⟩
  = if par (r.val &&& pcol b.val) = 0 then 0x3F80#16 else 0xBF80#16

set_option maxRecDepth 100000 in
/-- Rows 0 to 31 of the table. -/
theorem rows_0 : ∀ a : Fin 32, RowA ⟨0 + a.val, by omega⟩ := by decide +kernel

set_option maxRecDepth 100000 in
/-- Rows 32 to 63 of the table. -/
theorem rows_1 : ∀ a : Fin 32, RowA ⟨32 + a.val, by omega⟩ := by decide +kernel

set_option maxRecDepth 100000 in
/-- Rows 64 to 95 of the table. -/
theorem rows_2 : ∀ a : Fin 32, RowA ⟨64 + a.val, by omega⟩ := by decide +kernel

set_option maxRecDepth 100000 in
/-- Rows 96 to 127 of the table. -/
theorem rows_3 : ∀ a : Fin 32, RowA ⟨96 + a.val, by omega⟩ := by decide +kernel

end Cert.Math
-- ==== Proof.Had.TableB.lean ====
/- The kernel's table of the 256 × 256 Hadamard matrix, checked entry by entry: the second half of its rows. -/
module

public import proofs.«01_k».proof.KernelIdeal
public import proofs.«01_k».proof.Proof.Had.Sign

@[expose] public section

namespace Cert.Math

/-- Row `r` of the table holds the pattern of one or of minus one by the parity. -/
abbrev RowB (r : Fin 256) : Prop := ∀ b : Fin 256, Cert.KernelIdeal.lit0 ⟨256 * r.val + b.val, by omega⟩
  = if par (r.val &&& pcol b.val) = 0 then 0x3F80#16 else 0xBF80#16

set_option maxRecDepth 100000 in
/-- Rows 128 to 159 of the table. -/
theorem rows_4 : ∀ a : Fin 32, RowB ⟨128 + a.val, by omega⟩ := by decide +kernel

set_option maxRecDepth 100000 in
/-- Rows 160 to 191 of the table. -/
theorem rows_5 : ∀ a : Fin 32, RowB ⟨160 + a.val, by omega⟩ := by decide +kernel

set_option maxRecDepth 100000 in
/-- Rows 192 to 223 of the table. -/
theorem rows_6 : ∀ a : Fin 32, RowB ⟨192 + a.val, by omega⟩ := by decide +kernel

set_option maxRecDepth 100000 in
/-- Rows 224 to 255 of the table. -/
theorem rows_7 : ∀ a : Fin 32, RowB ⟨224 + a.val, by omega⟩ := by decide +kernel

end Cert.Math
-- ==== Proof.Had.Table.lean ====
/- The kernel's table of the 256 × 256 Hadamard matrix. -/
module

public import proofs.«01_k».proof.Proof.Had.TableA
public import proofs.«01_k».proof.Proof.Had.TableB

@[expose] public section

namespace Cert.Math

/-- Every entry of the table is the pattern of one or of minus one by the parity. -/
theorem lit0_eq (r b : Fin 256) : Cert.KernelIdeal.lit0 ⟨256 * r.val + b.val, by omega⟩
    = if par (r.val &&& pcol b.val) = 0 then 0x3F80#16 else 0xBF80#16 := by
  have hr := r.isLt
  have key : RowA r := by
    have e (o : ℕ) (h : o + r.val % 32 < 256) (h' : r.val = o + r.val % 32) : r = ⟨o + r.val % 32, h⟩ := Fin.ext h'
    rcases (by omega : r.val / 32 = 0 ∨ r.val / 32 = 1 ∨ r.val / 32 = 2 ∨ r.val / 32 = 3 ∨ r.val / 32 = 4 ∨ r.val / 32 = 5 ∨ r.val / 32 = 6 ∨ r.val / 32 = 7)
      with h | h | h | h | h | h | h | h
    · rw [e 0 (by omega) (by omega)]; exact rows_0 ⟨r.val % 32, by omega⟩
    · rw [e 32 (by omega) (by omega)]; exact rows_1 ⟨r.val % 32, by omega⟩
    · rw [e 64 (by omega) (by omega)]; exact rows_2 ⟨r.val % 32, by omega⟩
    · rw [e 96 (by omega) (by omega)]; exact rows_3 ⟨r.val % 32, by omega⟩
    · rw [e 128 (by omega) (by omega)]; exact rows_4 ⟨r.val % 32, by omega⟩
    · rw [e 160 (by omega) (by omega)]; exact rows_5 ⟨r.val % 32, by omega⟩
    · rw [e 192 (by omega) (by omega)]; exact rows_6 ⟨r.val % 32, by omega⟩
    · rw [e 224 (by omega) (by omega)]; exact rows_7 ⟨r.val % 32, by omega⟩
  exact key b

end Cert.Math
-- ==== Proof.KVal.lean ====
/- The kernel's two results, element by element, are the formula of the arguments. -/
module

public import proofs.«01_k».proof.Proof.Final
public import proofs.«01_k».proof.Proof.KHost
public import proofs.«01_k».proof.Proof.KDec
public import proofs.«01_k».proof.Proof.Spec
public import proofs.«01_k».proof.Proof.Finite
public import proofs.«01_k».proof.Proof.Had.Table

@[expose] public section

noncomputable section

namespace Cert.KernelIdeal.Walk

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-- An entry of the Hadamard matrix the kernel uses. -/
theorem aH_hd (k : ℕ) (hk : k < 256) (d : ℕ) (hd' : d < 256) : (aH m c k d : EReal) = ((Cert.Math.hd k (Cert.Math.pcol d) : ℝ) : EReal) := by
  rw [aH_apply m c ⟨k, hk⟩ ⟨d, hd'⟩, Cert.Math.lit0_eq ⟨k, hk⟩ ⟨d, hd'⟩]
  unfold Cert.Math.hd
  split_ifs
  · exact Ideal.ofBits_one_bf16
  · exact Ideal.ofBits_neg_one_bf16

/-- The kernel's normalized rows are the formula's. -/
theorem xs_spec (b : Fin 3) (s : Fin 384) (k : ℕ) (hk : k < 4096) :
    xsE (aX m c (384 * b.val + s.val)) (aG m c 0) (fun k => (((aS m c 0 k).toInt : ℝ) : EReal)) k = specXs (mX m c) (mG m c) (mS m c) b s k := by
  have ex (k : ℕ) (hk : k < 4096) : (aX m c (384 * b.val + s.val) k : EReal) = mX m c (ix3 b s (col k)) := by
    rw [show k = (⟨k, hk⟩ : Fin 4096).val from rfl, aX_apply]
    congr 2
    exact Fin.ext (Nat.mod_eq_of_lt hk).symm
  have eg : (aG m c 0 k : EReal) = mG m c (ix1 (col k)) := by
    rw [show k = (⟨k, hk⟩ : Fin 4096).val from rfl, aG_apply]
    congr 2
    exact Fin.ext (Nat.mod_eq_of_lt hk).symm
  have es : (aS m c 0 k : BitVec 8) = mS m c (ix1 (col k)) := by
    rw [show k = (⟨k, hk⟩ : Fin 4096).val from rfl, aS_apply]
    congr 2
    exact Fin.ext (Nat.mod_eq_of_lt hk).symm
  have er : rinv (aX m c (384 * b.val + s.val)) = rinv fun k => mX m c (ix3 b s (col k)) := by
    unfold rinv
    congr 3
    exact Finset.sum_congr rfl fun j _ => by rw [ex _ j.isLt]
  show aX m c (384 * b.val + s.val) k * rinv (aX m c (384 * b.val + s.val)) * aG m c 0 k * ((BitVec.toInt (aS m c 0 k) : ℝ) : EReal) = _
  rw [ex k hk, eg, es, er]
  rfl

/-- With a finite gain the formula's normalized rows are real. -/
theorem specXs_real (X : S3x384x4096.Idx → EReal) (G : S4096.Idx → EReal) (S : S4096.Idx → BitVec 8) (hG : ∀ i, ∃ r : ℝ, G i = (r : EReal))
    (b : Fin 3) (s : Fin 384) (k : ℕ) (hk : k < 4096) : ∃ r : ℝ, specXs X G S b s k = (r : EReal) :=
  xsE_real _ _ _ k hk (hG _) ⟨_, rfl⟩

/-- The kernel's rotated activations: the formula at a permuted column. -/
theorem XX_spec (hG : ∀ i, ∃ r : ℝ, mG m c i = (r : EReal)) (b : Fin 3) (s : Fin 384) (q d : ℕ) (hq : q < 16) (hd' : d < 256) :
    (XX m c q (384 * b.val + s.val) d : EReal) = specRot (mX m c) (mG m c) (mS m c) b s (256 * q + Cert.Math.pcol d) := by
  unfold XX
  rw [gX_xpB _ _ _ _ q _ d hq hd']
  have hs (B : ℕ) (hB : B < 16) : (∑ k : Fin 256, xsE (aX m c (384 * b.val + s.val)) (aG m c 0) (fun k => (((aS m c 0 k).toInt : ℝ) : EReal)) (256 * B + k.val) * aH m c k.val d)
      = ∑ k : Fin 256, specXs (mX m c) (mG m c) (mS m c) b s (256 * B + k.val) * aH m c k.val d :=
    Finset.sum_congr rfl fun k _ => by rw [xs_spec m c b s _ (by have := k.isLt; omega)]
  rw [hs _ (by omega), hs _ (by omega), hs _ (by omega), hs _ (by omega),
    comb_rot _ (specXs_real _ _ _ hG b s) _ (fun k hk d hd => aH_hd m c k hk d hd) q d hq hd']
  have hp := pcol_lt hd'
  unfold specRot rotE
  rw [show (256 * q + Cert.Math.pcol d) / 1024 = q / 4 by omega, show (256 * q + Cert.Math.pcol d) % 1024 = 256 * (q % 4) + Cert.Math.pcol d by omega]

/-- The pair, the element and the group of a permuted column. -/
theorem pcol_parts (q d : ℕ) (hq : q < 16) (hd' : d < 256) :
    128 * ((256 * q + d) / 256) + (256 * q + d) % 128 = (256 * q + Cert.Math.pcol d) / 2 % 2048
    ∧ (256 * q + d) / 128 % 2 = (256 * q + Cert.Math.pcol d) % 2
    ∧ (256 * q + d) / 1024 = (256 * q + Cert.Math.pcol d) / 1024 % 4 := by
  unfold Cert.Math.pcol
  obtain ⟨h, e, hh, he, rfl⟩ : ∃ h e, h < 2 ∧ e < 128 ∧ d = 128 * h + e := ⟨d / 128, d % 128, by omega, by omega, by omega⟩
  rw [show (128 * h + e) % 128 = e by omega, show (128 * h + e) / 128 = h by omega]
  rcases (by omega : h = 0 ∨ h = 1) with rfl | rfl <;> omega

/-- A column as a permuted column of its block. -/
theorem pcol_inv (k : ℕ) : 256 * (k / 256) + Cert.Math.pcol (128 * (k % 128 % 2) + (k % 128 / 2 + 64 * (k / 128 % 2))) = k := by
  have hk : k = 256 * (k / 256) + 128 * (k / 128 % 2) + 2 * (k % 128 / 2) + k % 128 % 2 := by omega
  have h1 : k / 128 % 2 < 2 := by omega
  have h2 : k % 128 % 2 < 2 := by omega
  have h3 : k % 128 / 2 < 64 := by omega
  generalize k / 256 = a at *
  generalize k / 128 % 2 = h at *
  generalize k % 128 / 2 = e at *
  generalize k % 128 % 2 = p at *
  unfold Cert.Math.pcol
  rw [show (128 * p + (e + 64 * h)) % 128 = e + 64 * h by omega, show (128 * p + (e + 64 * h)) / 128 = p by omega]
  omega

/-- The kernel's decoded weights: the formula at the permuted column. -/
theorem DD_spec (n : Fin 14336) (q d : ℕ) (hq : q < 16) (hd' : d < 256) :
    (gD (F := Ideal) (DD m c (n.val / 512)) (n.val % 512) (256 * q + d) : EReal) = specW (mB m c) (mC m c) (mZ m c) n (256 * q + Cert.Math.pcol d) := by
  unfold DD
  rw [gD_decT _ _ _ _ _ (by omega)]
  have hn : 512 * (n.val / 512) + n.val % 512 = n.val := by omega
  obtain ⟨p1, p2, p3⟩ := pcol_parts q d hq hd'
  have ek : 128 * ((256 * q + d) / 256) + (256 * q + d) % 128 = (256 * q + Cert.Math.pcol d) / 2 % 2048 := p1
  have eC : (bC m c (n.val / 512) (n.val % 512) (128 * ((256 * q + d) / 256) + (256 * q + d) % 128) : BitVec 8)
      = mC m c (ix2 n ⟨(256 * q + Cert.Math.pcol d) / 2 % 2048, Nat.mod_lt _ (by decide)⟩) := by
    unfold bC
    rw [hn, ek]
    exact aC_apply m c n ⟨_, _⟩
  have eZ : (bZ m c (n.val / 512) ((256 * q + d) / 1024) (n.val % 512) : EReal)
      = mZ m c (ix2 n ⟨(256 * q + Cert.Math.pcol d) / 1024 % 4, Nat.mod_lt _ (by decide)⟩) := by
    unfold bZ
    rw [hn, show (256 * q + d) / 1024 = (256 * q + Cert.Math.pcol d) / 1024 % 4 from p3]
    exact aZ_apply m c ⟨_, _⟩ n
  rw [eC, eZ]
  unfold specW
  congr 1
  have eL := aL_apply m c (codeOf (mC m c) n (256 * q + Cert.Math.pcol d))
  unfold codeOf at eL
  rw [show (256 * q + d) / 128 % 2 = (256 * q + Cert.Math.pcol d) % 2 from p2]
  unfold codeOf
  dsimp only at eL
  rw [eL]
  unfold halfW
  congr 1
  rcases Nat.mod_two_eq_zero_or_one (256 * q + Cert.Math.pcol d) with h | h
  · simp only [h]
    exact BitVec.extractLsb'_append_eq_right
  · simp only [h]
    exact BitVec.extractLsb'_append_eq_left

/-- An element of the first result. -/
theorem outY_spec (hG : ∀ i, ∃ r : ℝ, mG m c i = (r : EReal)) (b : Fin 3) (s : Fin 384) (n : Fin 14336) :
    (shapeCast S3x384x14336 (outY m c) shapeCasts_S1152x14336_S3x384x14336 (ix3 b s n) : EReal)
      = specY (mX m c) (mG m c) (mS m c) (mB m c) (mC m c) (mZ m c) b s n := by
  pointwise
  have hs := s.isLt
  show (mmT (F := Ideal) (XX m c) (gD (DD m c (2 * (n.val / 1024)))) (gD (DD m c (2 * (n.val / 1024) + 1)))
    (3 * (n.val % 1024 / 512) + (b.val * 384 + s.val) / 384)
    (ix2 (n0 := 384) (n1 := 512) ⟨(b.val * 384 + s.val) % 384, Nat.mod_lt _ (by decide)⟩ ⟨n.val % 1024 % 512, Nat.mod_lt _ (by decide)⟩) : EReal) = _
  rw [mmT_apply]
  have e1 : (3 * (n.val % 1024 / 512) + (b.val * 384 + s.val) / 384) % 3 = b.val := by omega
  have e2 : (3 * (n.val % 1024 / 512) + (b.val * 384 + s.val) / 384) / 3 = n.val % 1024 / 512 := by omega
  have e3 : (b.val * 384 + s.val) % 384 = s.val := by omega
  have e4 : n.val % 1024 % 512 = n.val % 512 := by omega
  have eD : (if n.val % 1024 / 512 = 0 then gD (DD m c (2 * (n.val / 1024))) else gD (DD m c (2 * (n.val / 1024) + 1))) = gD (F := Ideal) (DD m c (n.val / 512)) := by
    split_ifs with h
    · rw [show 2 * (n.val / 1024) = n.val / 512 by omega]
    · rw [show 2 * (n.val / 1024) + 1 = n.val / 512 by omega]
  rw [e1, e2, eD]
  simp only [e3, e4]
  unfold specY
  rw [← sum_pcol fun k => specRot (mX m c) (mG m c) (mS m c) b s k * specW (mB m c) (mC m c) (mZ m c) n k]
  refine Finset.sum_congr rfl fun q _ => Finset.sum_congr rfl fun d _ => ?_
  rw [XX_spec m c hG b s q.val d.val q.isLt d.isLt, DD_spec m c n q.val d.val q.isLt d.isLt]

/-- An element of the second result. -/
theorem outR_spec (hG : ∀ i, ∃ r : ℝ, mG m c i = (r : EReal)) (b : Fin 3) (s : Fin 384) (k : Fin 4096) :
    (shapeCast S3x384x4096 (outR m c) shapeCasts_S1152x4096_S3x384x4096 (ix3 b s k) : EReal)
      = specRot (mX m c) (mG m c) (mS m c) b s k.val := by
  pointwise
  have hs := s.isLt
  have hk := k.isLt
  have hb := b.isLt
  show (emitT (F := Ideal) (XX m c) (2 * min (k.val / 512) 7)
    (18 * (k.val % 512 / 256) + 2 * ((b.val * 384 + s.val) / 128) + k.val % 512 / 128 % 2)
    (ix2 (n0 := 128) (n1 := 128) ⟨(b.val * 384 + s.val) % 128, Nat.mod_lt _ (by decide)⟩ ⟨k.val % 512 % 128, Nat.mod_lt _ (by decide)⟩) : EReal) = _
  rw [emitT_apply]
  have e1 : 2 * min (k.val / 512) 7 + (18 * (k.val % 512 / 256) + 2 * ((b.val * 384 + s.val) / 128) + k.val % 512 / 128 % 2) / 18 = k.val / 256 := by omega
  have e2 : 128 * ((18 * (k.val % 512 / 256) + 2 * ((b.val * 384 + s.val) / 128) + k.val % 512 / 128 % 2) % 18 / 2) + (b.val * 384 + s.val) % 128
      = 384 * b.val + s.val := by omega
  have e3 : (18 * (k.val % 512 / 256) + 2 * ((b.val * 384 + s.val) / 128) + k.val % 512 / 128 % 2) % 2 = k.val / 128 % 2 := by omega
  have e4 : k.val % 512 % 128 = k.val % 128 := by omega
  simp only [e1, e2, e3, e4]
  have hd : 128 * (k.val % 128 % 2) + (k.val % 128 / 2 + 64 * (k.val / 128 % 2)) < 256 := by omega
  rw [XX_spec m c hG b s _ _ (by omega) hd]
  rw [pcol_inv]

end Cert.KernelIdeal.Walk
-- ==== Proof.RDot.lean ====
/- The product with the weights of the reference, a sum over three axes, element by element. -/
module

public import proofs.«01_k».proof.Proof.Gen.ReferenceIdeal.Run
public import Idealize.ShloMosaic.Lib.Pointwise

@[expose] public section

noncomputable section

namespace Cert.ReferenceIdeal.Value

open Cert.ReferenceIdeal Cert.ReferenceIdeal.Gen Idealize.ShloMosaic

/-- The dimension numbers of the product. -/
abbrev dY := dot_S3x384x4x512x2_S14336x4x512x2_S3x384x14336_234_123_01_0_n_n

/-- The product sums over three axes. -/
theorem dY_rank : dY.contr.rank = 3 := rfl

/-- An index of the summed axes from its three coordinates. -/
def kY (g : Fin 4) (j : Fin 512) (p : Fin 2) : dY.contr.Idx := fun a =>
  if h0 : a.val = 0 then g.cast (by obtain rfl : a = ⟨0, by decide⟩ := Fin.ext h0; rfl)
  else if h1 : a.val = 1 then j.cast (by obtain rfl : a = ⟨1, by decide⟩ := Fin.ext h1; rfl)
  else p.cast (by
    have ha : a.val < 3 := a.isLt
    obtain rfl : a = ⟨2, by decide⟩ := Fin.ext (by show a.val = 2; omega)
    rfl)

/-- The indices of the summed axes are the triples of coordinates. -/
def eY : Fin 4 × Fin 512 × Fin 2 ≃ dY.contr.Idx where
  toFun k := kY k.1 k.2.1 k.2.2
  invFun q := ((q ⟨0, by decide⟩).cast rfl, (q ⟨1, by decide⟩).cast rfl, (q ⟨2, by decide⟩).cast rfl)
  left_inv _ := rfl
  right_inv q := by
    funext a
    have ha : a.val < 3 := a.isLt
    rcases (by omega : a.val = 0 ∨ a.val = 1 ∨ a.val = 2) with h | h | h
    · obtain rfl : a = ⟨0, by decide⟩ := Fin.ext h
      rfl
    · obtain rfl : a = ⟨1, by decide⟩ := Fin.ext h
      rfl
    · obtain rfl : a = ⟨2, by decide⟩ := Fin.ext h
      rfl

/-- A sum over the summed axes is three sums. -/
theorem sum_eY (f : dY.contr.Idx → EReal) : ∑ q : dY.contr.Idx, f q = ∑ g : Fin 4, ∑ j : Fin 512, ∑ p : Fin 2, f (kY g j p) := by
  rw [← Fintype.sum_equiv eY (fun k => f (kY k.1 k.2.1 k.2.2)) f fun _ => rfl]
  simp only [Fintype.sum_prod_type]

/-- What the product reads of the activations. -/
theorem lhsY (b : Fin 3) (s : Fin 384) (n : Fin 14336) (g : Fin 4) (j : Fin 512) (p : Fin 2) :
    dY.lhsIdx (ix3 b s n) (kY g j p) = ix5 b s g j p := by
  funext a
  match a with
  | ⟨0, _⟩ => rfl
  | ⟨1, _⟩ => rfl
  | ⟨2, _⟩ => rfl
  | ⟨3, _⟩ => rfl
  | ⟨4, _⟩ => rfl

/-- What the product reads of the weights. -/
theorem rhsY (b : Fin 3) (s : Fin 384) (n : Fin 14336) (g : Fin 4) (j : Fin 512) (p : Fin 2) :
    dY.rhsIdx (ix3 b s n) (kY g j p) = ix4 n g j p := by
  funext a
  match a with
  | ⟨0, _⟩ => rfl
  | ⟨1, _⟩ => rfl
  | ⟨2, _⟩ => rfl
  | ⟨3, _⟩ => rfl

/-- An element of the product. -/
theorem dotY_apply (x : FVec Ideal S3x384x4x512x2 .bf16) (w : FVec Ideal S14336x4x512x2 .bf16) (b : Fin 3) (s : Fin 384) (n : Fin 14336) :
    (Host.dotGeneral (F := Ideal) dY none x w (ix3 b s n) : EReal)
      = ∑ g : Fin 4, ∑ j : Fin 512, ∑ p : Fin 2, (x (ix5 b s g j p) : EReal) * w (ix4 n g j p) := by
  show (0 : EReal) + ∑ q : dY.contr.Idx, (x (dY.lhsIdx (ix3 b s n) q) : EReal) * w (dY.rhsIdx (ix3 b s n) q) = _
  rw [zero_add, sum_eY]
  refine Finset.sum_congr rfl fun g _ => Finset.sum_congr rfl fun j _ => Finset.sum_congr rfl fun p _ => ?_
  rw [lhsY, rhsY]

/-! ## The codebook pairs -/

/-- The dimension numbers of the codebook's reading. -/
abbrev dG := gather_S256x2_S14336x2048x1_S14336x2048x2_2_0_n_n_0_2_12

/-- A code below 256 is not changed by the clamp. -/
theorem code_clamp : ∀ v : Fin 256, min (BitVec.ofNat 32 v.val).toInt.toNat 255 = v.val := by decide +kernel

/-- An element of the pair that a code below 256 stands for. -/
theorem gatherG_apply {α : Type} (x : S256x2.Idx → α) (idx : IVec S14336x2048x1 32) (n : Fin 14336) (j : Fin 2048) (p : Fin 2) (v : Fin 256)
    (hv : idx (ix3 n j 0) = BitVec.ofNat 32 v.val) : Host.gather dG x idx (ix3 n j p) = x (ix2 v p) := by
  unfold Host.gather
  congr 1
  funext a
  refine Fin.ext ?_
  show dG.start (ix3 n j p) idx a + dG.batchCoord (ix3 n j p) a + dG.offCoord (ix3 n j p) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 2) ∈ dG.startIndexMap from List.mem_singleton.mpr rfl)]
    have hsi : dG.siIdx (ix3 n j p) ⟨List.idxOf (0 : Fin 2) dG.startIndexMap, List.idxOf_lt_length_iff.2 (List.mem_singleton.mpr rfl)⟩ = ix3 n j 0 := by
      funext b
      match b with
      | ⟨0, _⟩ => rfl
      | ⟨1, _⟩ => rfl
      | ⟨2, _⟩ => rfl
    show min (idx (dG.siIdx (ix3 n j p) ⟨List.idxOf (0 : Fin 2) dG.startIndexMap, _⟩)).toInt.toNat 255 = v.val
    rw [hsi, hv]
    exact code_clamp v
  | ⟨1, h⟩ =>
    unfold GatherDims.start
    rw [dif_neg (show (⟨1, h⟩ : Fin 2) ∉ dG.startIndexMap from (by decide : (1 : Fin 2) ∉ [0])), Nat.zero_add]
    rfl

end Cert.ReferenceIdeal.Value
-- ==== Proof.RRot.lean ====
/- The rotated activations of the reference, element by element: the formula both programs compute. -/
module

public import proofs.«01_k».proof.Proof.RDot
public import proofs.«01_k».proof.Proof.Spec

@[expose] public section

noncomputable section

namespace Cert.ReferenceIdeal.Value

open Cert.ReferenceIdeal Cert.ReferenceIdeal.Gen Idealize.ShloMosaic
open Cert.KernelIdeal.Walk (rinv xsE rotE specXs specRot col)

/-- A column below 4096 is itself. -/
theorem col_val (k : Fin 4096) : col k.val = k := Fin.ext (Nat.mod_eq_of_lt k.isLt)

/-- The reciprocal root mean square of every row. -/
def rInv (x : FVec Ideal S3x384x4096 .bf16) : FVec Ideal S3x384x1 .f32 :=
  Host.rsqrt (addf (Host.divf (broadcastInDim S3x384x1 ![0, 1] bcast_S3x384_S3x384x1_0_1 (Host.reduceAdd (mulf (extf .f32 x bitsLt_bf16_f32) (extf .f32 x bitsLt_bf16_f32)) (constant S_ .f32 0x00000000#32) reducesTo_S3x384x4096_S3x384_d2 h_S_)) (broadcastInDim S3x384x1 ![] bcast_S_S3x384x1 (constant S_ .f32 0x45800000#32))) (broadcastInDim S3x384x1 ![] bcast_S_S3x384x1 (constant S_ .f32 0x358637BD#32)))

/-- The reciprocal root mean square of a row. -/
theorem rInv_apply (x : FVec Ideal S3x384x4096 .bf16) (b : Fin 3) (s : Fin 384) (z : Fin 1) :
    (rInv x (ix3 b s z) : EReal) = rinv fun k => x (ix3 b s (col k)) := by
  pointwise [rInv, rinv]
  simp only [col_val]

/-- The rows normalized and multiplied by the gain. -/
def rNorm (x : FVec Ideal S3x384x4096 .bf16) (g : FVec Ideal S4096 .f32) : FVec Ideal S3x384x4096 .bf16 :=
  truncf .bf16 (mulf (mulf (extf .f32 x bitsLt_bf16_f32) (broadcastInDim S3x384x4096 ![0, 1, 2] bcast_S3x384x1_S3x384x4096_0_1_2 (rInv x))) (broadcastInDim S3x384x4096 ![0, 1, 2] bcast_S1x1x4096_S3x384x4096_0_1_2 (broadcastInDim S1x1x4096 ![2] bcast_S4096_S1x1x4096_2 g))) bitsLt_bf16_f32

/-- The signs of every column. -/
def rSign (r : IVec S4096 8) : FVec Ideal S3x384x4x1024 .bf16 :=
  broadcastInDim S3x384x4x1024 ![0, 1, 2, 3] bcast_S1x1x4x1024_S3x384x4x1024_0_1_2_3 (broadcastInDim S1x1x4x1024 ![2, 3] bcast_S4x1024_S1x1x4x1024_2_3 (shapeCast _ (truncf .bf16 (sitofp (F := Ideal) .f32 (extsi 32 r natLt_8_32)) bitsLt_bf16_f32) shapeCasts_S4096_S4x1024))

/-- The Hadamard matrix. -/
def rHad : FVec Ideal S1024x1024 .bf16 :=
  truncf .bf16 (sitofp (F := Ideal) .f32 (subi (broadcastInDim S1024x1024 ![] bcast_S_S1024x1024 (constantI S_ 32 1#32)) (muli (broadcastInDim S1024x1024 ![] bcast_S_S1024x1024 (constantI S_ 32 2#32)) (andi (ctpop (andi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 1#32)))))) bitsLt_bf16_f32

/-- The rotated activations by groups. -/
def rRot (x : FVec Ideal S3x384x4096 .bf16) (g : FVec Ideal S4096 .f32) (r : IVec S4096 8) : FVec Ideal S3x384x4x1024 .bf16 :=
  truncf .bf16 (mulf (Host.dotGeneral (F := Ideal) dot_S3x384x4x1024_S1024x1024_S3x384x4x1024_3_0_012_1_n_n none (mulf (shapeCast _ (rNorm x g) shapeCasts_S3x384x4096_S3x384x4x1024) (rSign r)) rHad) (broadcastInDim S3x384x4x1024 ![] bcast_S_S3x384x4x1024 (constant S_ .f32 0x3D000000#32))) bitsLt_bf16_f32

/-- One minus twice the last bit of the number of ones is one or minus one by the parity. -/
theorem par_word : ∀ n : Fin 1024, IntOp.subi 1#32 (IntOp.muli 2#32 (IntOp.andi (IntOp.ctpop (BitVec.ofNat 32 n.val)) 1#32))
    = if Cert.Math.par n.val = 0 then 1#32 else -1#32 := by decide +kernel

/-- An entry of the Hadamard matrix. -/
theorem rHad_apply (i k : Fin 1024) : (rHad (ix2 i k) : EReal) = (Cert.Math.hd i.val k.val : EReal) := by
  pointwise [rHad]
  have e : IntOp.andi (BitVec.ofNat 32 i.val) (BitVec.ofNat 32 k.val) = BitVec.ofNat 32 (i.val &&& k.val) := BitVec.ofNat_and.symm
  rw [e, show IntOp.subi 1#32 (IntOp.muli 2#32 (IntOp.andi (IntOp.ctpop (BitVec.ofNat 32 (i.val &&& k.val))) 1#32)) = _ from
    par_word ⟨i.val &&& k.val, lt_of_le_of_lt Nat.and_le_left i.isLt⟩]
  unfold Cert.Math.hd
  show (((if Cert.Math.par (i.val &&& k.val) = 0 then 1#32 else -1#32 : BitVec 32).toInt : ℝ) : EReal) = _
  by_cases h : Cert.Math.par (i.val &&& k.val) = 0
  · rw [if_pos h, if_pos h, show (1#32 : BitVec 32).toInt = 1 by decide]
    norm_num
  · rw [if_neg h, if_neg h, show (-1#32 : BitVec 32).toInt = -1 by decide]
    norm_num

/-- A column's sign. -/
theorem rSign_apply (r : IVec S4096 8) (b : Fin 3) (s : Fin 384) (g : Fin 4) (k : Fin 1024) :
    (rSign r (ix4 b s g k) : EReal) = (((r (ix1 (col (1024 * g.val + k.val)))).toInt : ℝ) : EReal) := by
  pointwise [rSign]
  show (((BitVec.signExtend 32 (r (ix1 ⟨g.val * 1024 + k.val, _⟩))).toInt : ℝ) : EReal) = _
  have e : (⟨g.val * 1024 + k.val, by have := g.isLt; have := k.isLt; omega⟩ : Fin 4096) = col (1024 * g.val + k.val) :=
    Fin.ext (by have := g.isLt; have := k.isLt; show g.val * 1024 + k.val = (1024 * g.val + k.val) % 4096; omega)
  rw [e, BitVec.toInt_signExtend_of_le (by decide)]

/-- A normalized entry times its gain. -/
theorem rNorm_apply (x : FVec Ideal S3x384x4096 .bf16) (g : FVec Ideal S4096 .f32) (b : Fin 3) (s : Fin 384) (k : Fin 4096) :
    (rNorm x g (ix3 b s k) : EReal) = (x (ix3 b s k) : EReal) * (rinv fun k => x (ix3 b s (col k))) * g (ix1 k) := by
  pointwise [rNorm, rInv_apply]

/-- An element of the reference's rotated activations. -/
theorem rRot_apply (x : FVec Ideal S3x384x4096 .bf16) (g : FVec Ideal S4096 .f32) (r : IVec S4096 8) (b : Fin 3) (s : Fin 384) (q : Fin 4) (k : Fin 1024) :
    (rRot x g r (ix4 b s q k) : EReal) = specRot x g r b s (1024 * q.val + k.val) := by
  pointwise [rRot, rSign_apply, rNorm_apply, rHad_apply, specRot, rotE, specXs, xsE]
  have hk := k.isLt
  have hq := q.isLt
  rw [show (1024 * q.val + k.val) / 1024 = q.val by omega, show (1024 * q.val + k.val) % 1024 = k.val by omega]
  congr 1
  refine Finset.sum_congr rfl fun i _ => ?_
  have hi := i.isLt
  have e : (⟨q.val * 1024 + i.val, by omega⟩ : Fin 4096) = col (1024 * q.val + i.val) :=
    Fin.ext (by show q.val * 1024 + i.val = (1024 * q.val + i.val) % 4096; omega)
  rw [e]

end Cert.ReferenceIdeal.Value
-- ==== Proof.RVal.lean ====
/- The two results of the reference, element by element: the formula both programs compute. -/
module

public import proofs.«01_k».proof.Proof.RRot

@[expose] public section

noncomputable section

namespace Cert.ReferenceIdeal.Value

open Cert.ReferenceIdeal Cert.ReferenceIdeal.Gen Idealize.ShloMosaic
open Cert.KernelIdeal.Walk (specRot specW specY codeOf sum_gjp)

/-- The row of the codebook that every code names. -/
def rCode (c : IVec S14336x2048 8) : IVec S14336x2048x1 32 :=
  broadcastInDim S14336x2048x1 ![0, 1] bcast_S14336x2048_S14336x2048x1_0_1 (select (cmpi .slt (extui 32 c natLt_8_32) (broadcastInDim S14336x2048 ![] bcast_S_S14336x2048 (constantI S_ 32 0#32))) (addi (extui 32 c natLt_8_32) (broadcastInDim S14336x2048 ![] bcast_S_S14336x2048 (constantI S_ 32 256#32))) (extui 32 c natLt_8_32))

/-- The weights: the codebook's pairs times the groups' scales. -/
def rW (B : IVec S256x2 16) (c : IVec S14336x2048 8) (z : FVec Ideal S14336x4 .f32) : FVec Ideal S14336x4x512x2 .bf16 :=
  mulf (shapeCast _ (Host.gather dG (bitcastToFloat (F := Ideal) .bf16 B) (rCode c)) shapeCasts_S14336x2048x2_S14336x4x512x2) (broadcastInDim S14336x4x512x2 ![0, 1, 2, 3] bcast_S14336x4x1x1_S14336x4x512x2_0_1_2_3 (broadcastInDim S14336x4x1x1 ![0, 1] bcast_S14336x4_S14336x4x1x1_0_1 (truncf .bf16 z bitsLt_bf16_f32)))

/-- The first result. -/
def rY (x : FVec Ideal S3x384x4096 .bf16) (g : FVec Ideal S4096 .f32) (r : IVec S4096 8) (B : IVec S256x2 16) (c : IVec S14336x2048 8) (z : FVec Ideal S14336x4 .f32) :
    FVec Ideal S3x384x14336 .bf16 :=
  truncf .bf16 (Host.dotGeneral (F := Ideal) dY none (shapeCast _ (rRot x g r) shapeCasts_S3x384x4x1024_S3x384x4x512x2) (rW B c z)) bitsLt_bf16_f32

/-- The second result. -/
def rR (x : FVec Ideal S3x384x4096 .bf16) (g : FVec Ideal S4096 .f32) (r : IVec S4096 8) : FVec Ideal S3x384x4096 .bf16 :=
  shapeCast _ (rRot x g r) shapeCasts_S3x384x4x1024_S3x384x4096

/-- A code, read unsigned, is never negative: the wrap of negative indices leaves it. -/
theorem code_word : ∀ v : BitVec 8, Scalar.select (IntOp.cmpi .slt (BitVec.setWidth 32 v) 0#32) (IntOp.addi (BitVec.setWidth 32 v) 256#32) (BitVec.setWidth 32 v)
    = BitVec.ofNat 32 v.toNat := by decide +kernel

/-- The row of the codebook that a code names. -/
theorem rCode_apply (c : IVec S14336x2048 8) (n : Fin 14336) (j : Fin 2048) (z : Fin 1) : rCode c (ix3 n j z) = BitVec.ofNat 32 (c (ix2 n j)).toNat := by
  pointwise [rCode]
  exact code_word _

/-- An entry of the reference's weights. -/
theorem rW_apply (B : IVec S256x2 16) (c : IVec S14336x2048 8) (z : FVec Ideal S14336x4 .f32) (n : Fin 14336) (g : Fin 4) (j : Fin 512) (p : Fin 2) :
    (rW B c z (ix4 n g j p) : EReal) = specW B c z n (1024 * g.val + (2 * j.val + p.val)) := by
  pointwise [rW]
  have hg := g.isLt
  have hj := j.isLt
  have hp := p.isLt
  have ej : (⟨(1024 * g.val + (2 * j.val + p.val)) / 2 % 2048, Nat.mod_lt _ (by decide)⟩ : Fin 2048) = ⟨g.val * 512 + j.val, by omega⟩ := Fin.ext (by show _ / 2 % 2048 = g.val * 512 + j.val; omega)
  have ep : (⟨(1024 * g.val + (2 * j.val + p.val)) % 2, Nat.mod_lt _ (by decide)⟩ : Fin 2) = p := Fin.ext (by show _ % 2 = p.val; omega)
  have eg : (⟨(1024 * g.val + (2 * j.val + p.val)) / 1024 % 4, Nat.mod_lt _ (by decide)⟩ : Fin 4) = g := Fin.ext (by show _ / 1024 % 4 = g.val; omega)
  have ec : rCode c (ix3 n ⟨g.val * 512 + j.val, by omega⟩ 0) = BitVec.ofNat 32 (codeOf c n (1024 * g.val + (2 * j.val + p.val))).val := by
    rw [rCode_apply]
    exact congrArg (fun i : Fin 2048 => BitVec.ofNat 32 (c (ix2 n i)).toNat) ej.symm
  rw [gatherG_apply _ _ n ⟨g.val * 512 + j.val, by omega⟩ p _ ec]
  unfold specW
  rw [ep, eg]
  rfl

/-- An element of the reference's second result. -/
theorem rR_apply (x : FVec Ideal S3x384x4096 .bf16) (g : FVec Ideal S4096 .f32) (r : IVec S4096 8) (b : Fin 3) (s : Fin 384) (k : Fin 4096) :
    (rR x g r (ix3 b s k) : EReal) = specRot x g r b s k.val := by
  pointwise [rR]
  rw [rRot_apply]
  congr 1
  show 1024 * (k.val / 1024) + k.val % 1024 = k.val
  omega

/-- An element of the reference's first result. -/
theorem rY_apply (x : FVec Ideal S3x384x4096 .bf16) (g : FVec Ideal S4096 .f32) (r : IVec S4096 8) (B : IVec S256x2 16) (c : IVec S14336x2048 8) (z : FVec Ideal S14336x4 .f32)
    (b : Fin 3) (s : Fin 384) (n : Fin 14336) :
    (rY x g r B c z (ix3 b s n) : EReal) = specY x g r B c z b s n := by
  show (Host.dotGeneral (F := Ideal) dY none _ _ (ix3 b s n) : EReal) = _
  rw [dotY_apply]
  unfold specY
  rw [← sum_gjp fun k => specRot x g r b s k * specW B c z n k]
  refine Finset.sum_congr rfl fun q _ => Finset.sum_congr rfl fun j _ => Finset.sum_congr rfl fun p _ => ?_
  rw [rW_apply]
  congr 1
  pointwise
  rw [rRot_apply]
  congr 1
  show 1024 * q.val + (j.val * 2 + p.val) = _
  omega

end Cert.ReferenceIdeal.Value
-- ==== Proof.Equal.lean ====
/- The kernel's two results and the reference's are equal, for a finite gain. -/
module

public import proofs.«01_k».proof.Proof.KVal
public import proofs.«01_k».proof.Proof.RVal
public import proofs.«01_k».proof.Proof.Gen.Pre_gain_finite

@[expose] public section

noncomputable section

namespace Cert.KernelIdeal.Walk

open Cert.KernelIdeal Cert.KernelIdeal.Gen
open Idealize.ShloMosaic Idealize.ShloMosaic.TcCoe
open Idealize.SL.Sem
open Cert.ReferenceIdeal.Value (rY rR rY_apply rR_apply)

/-- The precondition says that every gain is a real number. -/
theorem gain_real (a0 : FVec Ideal Cert.Pre_gain_finite.S3x384x4096 .bf16) (a1 : FVec Ideal Cert.Pre_gain_finite.S4096 .f32) (a2 : IVec Cert.Pre_gain_finite.S4096 8)
    (a3 : IVec Cert.Pre_gain_finite.S256x2 16) (a4 : IVec Cert.Pre_gain_finite.S14336x2048 8) (a5 : FVec Ideal Cert.Pre_gain_finite.S14336x4 .f32)
    (h : Cert.Pre_gain_finite.fn (F := Ideal) a0 a1 a2 a3 a4 a5 = (fun _ => 1#1)) (i : S4096.Idx) : ∃ r : ℝ, (a1 i : EReal) = (r : EReal) := by
  have h := congrFun h i
  have h : BitVec.ofBool (decide (max (a1 i : EReal) (-(a1 i : EReal)) < Ideal.ofBits .f32 0x7F800000#32)) = 1#1 := h
  have hlt : max (a1 i : EReal) (-(a1 i : EReal)) < Ideal.ofBits .f32 0x7F800000#32 := by
    by_contra hn
    rw [decide_eq_false hn] at h
    exact absurd h (by decide)
  have hlt : max (a1 i : EReal) (-(a1 i : EReal)) < ⊤ := lt_of_lt_of_le hlt le_top
  have h1 : (a1 i : EReal) ≠ ⊤ := fun e => absurd (lt_of_le_of_lt (le_max_left _ _) hlt) (by rw [e]; exact lt_irrefl _)
  have h2 : (a1 i : EReal) ≠ ⊥ := fun e => absurd (lt_of_le_of_lt (le_max_right _ _) hlt) (by rw [e, EReal.neg_bot]; exact lt_irrefl _)
  exact ⟨_, (EReal.coe_toReal h1 h2).symm⟩

variable (m : (ℓ : Loc nD τ sig) → Buf (Elt Ideal) ℓ) (c : Dev nD)

/-- An index of three axes is its three coordinates. -/
theorem idx3 {n0 n1 n2 : ℕ} (i : (⟨3, ![n0, n1, n2]⟩ : Shape).Idx) : i = ix3 (n0 := n0) (n1 := n1) (n2 := n2) (i 0) (i 1) (i 2) := by
  funext a
  match a with
  | ⟨0, _⟩ => rfl
  | ⟨1, _⟩ => rfl
  | ⟨2, _⟩ => rfl

/-- The first results are equal. -/
theorem equal_y (hG : ∀ i, ∃ r : ℝ, mG m c i = (r : EReal)) :
    rY (mX m c) (mG m c) (mS m c) (mB m c) (mC m c) (mZ m c)
      = (shapeCast S3x384x14336 (outY m c) shapeCasts_S1152x14336_S3x384x14336 : S3x384x14336.Idx → EReal) := by
  funext i
  rw [idx3 i]
  exact (rY_apply _ _ _ _ _ _ _ _ _).trans (outY_spec m c hG _ _ _).symm

/-- The second results are equal. -/
theorem equal_r (hG : ∀ i, ∃ r : ℝ, mG m c i = (r : EReal)) :
    rR (mX m c) (mG m c) (mS m c) = (shapeCast S3x384x4096 (outR m c) shapeCasts_S1152x4096_S3x384x4096 : S3x384x4096.Idx → EReal) := by
  funext i
  rw [idx3 i]
  exact (rR_apply _ _ _ _ _ _).trans (outR_spec m c hG _ _ _).symm

end Cert.KernelIdeal.Walk
-- ==== Proof.lean ====
/- The proof of the claim: both programs run to the end and leave their arguments, and their results are equal as extended
   reals for a finite gain. -/
module

public import proofs.«01_k».proof.Defs
public import proofs.«01_k».proof.Proof.Gen.Kernel
public import proofs.«01_k».proof.Proof.KernelFrame.Frame
public import proofs.«01_k».proof.Proof.Gen.KernelIdeal
public import proofs.«01_k».proof.Proof.Gen.ReferenceIdeal.Run
public import proofs.«01_k».proof.Proof.Gen.Pre_gain_finite
public import proofs.«01_k».proof.Proof.Pipe
public import proofs.«01_k».proof.Proof.Equal
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_gain_finite.Gen.facts

/-- The idealized kernel ends with every counter zero and its arguments unchanged. -/
theorem frame_ideal : Cert.quiescent_KernelIdeal := fun m ρ _ =>
  (θ_run Cert.KernelIdeal.defs _ _).mono (fun _ h => ⟨h.1, h.2⟩)
    (θ_run_and (Cert.KernelIdeal.Walk.unchanged m ρ)
      ((θ_run Cert.KernelIdeal.defs _ _).mono (fun _ h => h.2) (Cert.KernelIdeal.Walk.run_main m ρ)))

/-- The reference ends with every counter zero and its arguments unchanged. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The two programs' results are equal. -/
theorem results : Cert.algebraic_KernelIdeal_ReferenceIdeal_pre_gain_finite := by
  intro m g m' g' hpre hargs
  have hG (c) := Cert.KernelIdeal.Walk.gain_real _ _ _ _ _ _ (hpre c)
  refine ⟨fun c => shapeCast Cert.KernelIdeal.S3x384x14336 (Cert.KernelIdeal.Walk.outY (F := Ideal) m c) Cert.KernelIdeal.Gen.shapeCasts_S1152x14336_S3x384x14336,
    fun c => shapeCast Cert.KernelIdeal.S3x384x4096 (Cert.KernelIdeal.Walk.outR (F := Ideal) m c) Cert.KernelIdeal.Gen.shapeCasts_S1152x4096_S3x384x4096, ?_, ?_⟩
  · exact (θ_run Cert.KernelIdeal.defs _ _).mono (fun _ h c => ⟨(h.1 c).1, (h.1 c).2, h.2 c⟩)
      (θ_run_and (Cert.KernelIdeal.Walk.run_results m g) (Cert.KernelIdeal.Walk.unchanged m g))
  · refine (θ_run Cert.ReferenceIdeal.defs _ _).mono (fun _ h c => ⟨(h c).1.trans ?_, (h c).2.1.trans ?_, (h c).2.2⟩)
      (Cert.ReferenceIdeal.Value.run (F := Ideal) m' g')
    · obtain ⟨e0, e1, e2, e3, e4, e5⟩ := hargs c
      rw [e0, e1, e2, e3, e4, e5]
      exact Cert.KernelIdeal.Walk.equal_y m c (hG c)
    · obtain ⟨e0, e1, e2, e3, e4, e5⟩ := hargs c
      rw [e0, e1, e2]
      exact Cert.KernelIdeal.Walk.equal_r m c (hG c)

/-- Everything claimed. -/
theorem claim : Cert.Claim :=
  ⟨Cert.Kernel.Gen.facts, Cert.KernelIdeal.Gen.facts, Cert.ReferenceIdeal.Gen.facts, Cert.Pre_gain_finite.Gen.facts,
    fun m ρ _ => Cert.Kernel.Gen.frame m ρ, frame_ideal, fun m ρ _ => frame_ideal m ρ trivial, frame_reference, fun m ρ _ => frame_reference m ρ trivial, trivial, results⟩

end Cert.Proof

end
